-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v986) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x1 : Shape := ⟨2, ![1, 1]⟩
abbrev S4096x16 : Shape := ⟨2, ![4096, 16]⟩
abbrev S16x512 : Shape := ⟨2, ![16, 512]⟩
abbrev S16 : Shape := ⟨1, ![16]⟩
abbrev S1x16 : Shape := ⟨2, ![1, 16]⟩
abbrev S16x1 : Shape := ⟨2, ![16, 1]⟩
abbrev S1x16x1 : Shape := ⟨3, ![1, 16, 1]⟩
abbrev S1 : Shape := ⟨1, ![1]⟩
abbrev S1x1x1 : Shape := ⟨3, ![1, 1, 1]⟩
abbrev S1x16x512 : Shape := ⟨3, ![1, 16, 512]⟩
abbrev S512 : Shape := ⟨1, ![512]⟩
abbrev S1x512 : Shape := ⟨2, ![1, 512]⟩
abbrev S1x1x512 : Shape := ⟨3, ![1, 1, 512]⟩
abbrev S_ : Shape := ⟨0, ![]⟩

abbrev nBuf : Space → Nat
  | .hbm => 5
  | .vmem => 2
  | .smem => 1
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x1, .f32⟩
  | .hbm, ⟨4, _⟩ => ⟨S_, .f32⟩
  | .local _ .vmem, ⟨0, _⟩ => ⟨S4096x512, .f32⟩
  | .local _ .vmem, ⟨1, _⟩ => ⟨S4096x1, .i32⟩
  | .local _ .smem, ⟨0, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S512 : Shape := ⟨1, ![512]⟩
abbrev S1x512 : Shape := ⟨2, ![1, 512]⟩

abbrev nBuf : Space → Nat
  | .hbm => 1377
  | .vmem => 0
  | .smem => 0
  | _ => 0

abbrev hbmTy0_0 (i : Nat) : BufTy := match i % 128 with
  | 0 => ⟨S4096x512, .f32⟩
  | 1 => ⟨S4096, .i32⟩
  | 2 => ⟨S_, .i32⟩
  | 3 => ⟨S4096, .i32⟩
  | 4 => ⟨S4096, .i1⟩
  | 5 => ⟨S4096, .f32⟩
  | 6 => ⟨S_, .f32⟩
  | 7 => ⟨S_, .f32⟩
  | 8 => ⟨S_, .f32⟩
  | 9 => ⟨S_, .f32⟩
  | 10 => ⟨S4096x1, .f32⟩
  | 11 => ⟨S4096x512, .f32⟩
  | 12 => ⟨S4096x512, .f32⟩
  | 13 => ⟨S_, .f32⟩
  | 14 => ⟨S512, .f32⟩
  | 15 => ⟨S512, .f32⟩
  | 16 => ⟨S512, .f32⟩
  | 17 => ⟨S1x512, .f32⟩
  | 18 => ⟨S4096x512, .f32⟩
  | 19 => ⟨S4096x512, .f32⟩
  | 20 => ⟨S4096x1, .f32⟩
  | 21 => ⟨S4096x512, .f32⟩
  | 22 => ⟨S4096x512, .f32⟩
  | 23 => ⟨S4096x512, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .i1⟩
  | 31 => ⟨S_, .f32⟩
  | 32 => ⟨S_, .f32⟩
  | 33 => ⟨S_, .f32⟩
  | 34 => ⟨S_, .f32⟩
  | 35 => ⟨S_, .f32⟩
  | 36 => ⟨S_, .i32⟩
  | 37 => ⟨S4096, .i32⟩
  | 38 => ⟨S4096, .i1⟩
  | 39 => ⟨S4096, .f32⟩
  | 40 => ⟨S_, .f32⟩
  | 41 => ⟨S_, .f32⟩
  | 42 => ⟨S_, .f32⟩
  | 43 => ⟨S_, .f32⟩
  | 44 => ⟨S4096x1, .f32⟩
  | 45 => ⟨S4096x512, .f32⟩
  | 46 => ⟨S4096x512, .f32⟩
  | 47 => ⟨S_, .f32⟩
  | 48 => ⟨S512, .f32⟩
  | 49 => ⟨S512, .f32⟩
  | 50 => ⟨S512, .f32⟩
  | 51 => ⟨S1x512, .f32⟩
  | 52 => ⟨S4096x512, .f32⟩
  | 53 => ⟨S4096x512, .f32⟩
  | 54 => ⟨S4096x1, .f32⟩
  | 55 => ⟨S4096x512, .f32⟩
  | 56 => ⟨S4096x512, .f32⟩
  | 57 => ⟨S4096x512, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .i1⟩
  | 65 => ⟨S_, .f32⟩
  | 66 => ⟨S_, .f32⟩
  | 67 => ⟨S_, .f32⟩
  | 68 => ⟨S_, .f32⟩
  | 69 => ⟨S_, .i32⟩
  | 70 => ⟨S4096, .i32⟩
  | 71 => ⟨S4096, .i1⟩
  | 72 => ⟨S4096, .f32⟩
  | 73 => ⟨S_, .f32⟩
  | 74 => ⟨S_, .f32⟩
  | 75 => ⟨S_, .f32⟩
  | 76 => ⟨S_, .f32⟩
  | 77 => ⟨S4096x1, .f32⟩
  | 78 => ⟨S4096x512, .f32⟩
  | 79 => ⟨S4096x512, .f32⟩
  | 80 => ⟨S_, .f32⟩
  | 81 => ⟨S512, .f32⟩
  | 82 => ⟨S512, .f32⟩
  | 83 => ⟨S512, .f32⟩
  | 84 => ⟨S1x512, .f32⟩
  | 85 => ⟨S4096x512, .f32⟩
  | 86 => ⟨S4096x512, .f32⟩
  | 87 => ⟨S4096x1, .f32⟩
  | 88 => ⟨S4096x512, .f32⟩
  | 89 => ⟨S4096x512, .f32⟩
  | 90 => ⟨S4096x512, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S_, .f32⟩
  | 102 => ⟨S_, .i32⟩
  | 103 => ⟨S4096, .i32⟩
  | 104 => ⟨S4096, .i1⟩
  | 105 => ⟨S4096, .f32⟩
  | 106 => ⟨S_, .f32⟩
  | 107 => ⟨S_, .f32⟩
  | 108 => ⟨S_, .f32⟩
  | 109 => ⟨S_, .f32⟩
  | 110 => ⟨S4096x1, .f32⟩
  | 111 => ⟨S4096x512, .f32⟩
  | 112 => ⟨S4096x512, .f32⟩
  | 113 => ⟨S_, .f32⟩
  | 114 => ⟨S512, .f32⟩
  | 115 => ⟨S512, .f32⟩
  | 116 => ⟨S512, .f32⟩
  | 117 => ⟨S1x512, .f32⟩
  | 118 => ⟨S4096x512, .f32⟩
  | 119 => ⟨S4096x512, .f32⟩
  | 120 => ⟨S4096x1, .f32⟩
  | 121 => ⟨S4096x512, .f32⟩
  | 122 => ⟨S4096x512, .f32⟩
  | 123 => ⟨S4096x512, .f32⟩
  | 124 => ⟨S_, .f32⟩
  | 125 => ⟨S_, .f32⟩
  | 126 => ⟨S_, .f32⟩
  | 127 => ⟨S_, .f32⟩
  | _ => ⟨S4096x512, .f32⟩

abbrev hbmTy0_1 (i : Nat) : BufTy := match i % 128 with
  | 0 => ⟨S_, .f32⟩
  | 1 => ⟨S_, .f32⟩
  | 2 => ⟨S_, .i1⟩
  | 3 => ⟨S_, .f32⟩
  | 4 => ⟨S_, .f32⟩
  | 5 => ⟨S_, .f32⟩
  | 6 => ⟨S_, .f32⟩
  | 7 => ⟨S_, .i32⟩
  | 8 => ⟨S4096, .i32⟩
  | 9 => ⟨S4096, .i1⟩
  | 10 => ⟨S4096, .f32⟩
  | 11 => ⟨S_, .f32⟩
  | 12 => ⟨S_, .f32⟩
  | 13 => ⟨S_, .f32⟩
  | 14 => ⟨S_, .f32⟩
  | 15 => ⟨S4096x1, .f32⟩
  | 16 => ⟨S4096x512, .f32⟩
  | 17 => ⟨S4096x512, .f32⟩
  | 18 => ⟨S_, .f32⟩
  | 19 => ⟨S512, .f32⟩
  | 20 => ⟨S512, .f32⟩
  | 21 => ⟨S512, .f32⟩
  | 22 => ⟨S1x512, .f32⟩
  | 23 => ⟨S4096x512, .f32⟩
  | 24 => ⟨S4096x512, .f32⟩
  | 25 => ⟨S4096x1, .f32⟩
  | 26 => ⟨S4096x512, .f32⟩
  | 27 => ⟨S4096x512, .f32⟩
  | 28 => ⟨S4096x512, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .i1⟩
  | 36 => ⟨S_, .f32⟩
  | 37 => ⟨S_, .f32⟩
  | 38 => ⟨S_, .f32⟩
  | 39 => ⟨S_, .f32⟩
  | 40 => ⟨S_, .i32⟩
  | 41 => ⟨S4096, .i32⟩
  | 42 => ⟨S4096, .i1⟩
  | 43 => ⟨S4096, .f32⟩
  | 44 => ⟨S_, .f32⟩
  | 45 => ⟨S_, .f32⟩
  | 46 => ⟨S_, .f32⟩
  | 47 => ⟨S_, .f32⟩
  | 48 => ⟨S4096x1, .f32⟩
  | 49 => ⟨S4096x512, .f32⟩
  | 50 => ⟨S4096x512, .f32⟩
  | 51 => ⟨S_, .f32⟩
  | 52 => ⟨S512, .f32⟩
  | 53 => ⟨S512, .f32⟩
  | 54 => ⟨S512, .f32⟩
  | 55 => ⟨S1x512, .f32⟩
  | 56 => ⟨S4096x512, .f32⟩
  | 57 => ⟨S4096x512, .f32⟩
  | 58 => ⟨S4096x1, .f32⟩
  | 59 => ⟨S4096x512, .f32⟩
  | 60 => ⟨S4096x512, .f32⟩
  | 61 => ⟨S4096x512, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .i1⟩
  | 69 => ⟨S_, .f32⟩
  | 70 => ⟨S_, .f32⟩
  | 71 => ⟨S_, .f32⟩
  | 72 => ⟨S_, .f32⟩
  | 73 => ⟨S_, .i32⟩
  | 74 => ⟨S4096, .i32⟩
  | 75 => ⟨S4096, .i1⟩
  | 76 => ⟨S4096, .f32⟩
  | 77 => ⟨S_, .f32⟩
  | 78 => ⟨S_, .f32⟩
  | 79 => ⟨S_, .f32⟩
  | 80 => ⟨S_, .f32⟩
  | 81 => ⟨S4096x1, .f32⟩
  | 82 => ⟨S4096x512, .f32⟩
  | 83 => ⟨S4096x512, .f32⟩
  | 84 => ⟨S_, .f32⟩
  | 85 => ⟨S512, .f32⟩
  | 86 => ⟨S512, .f32⟩
  | 87 => ⟨S512, .f32⟩
  | 88 => ⟨S1x512, .f32⟩
  | 89 => ⟨S4096x512, .f32⟩
  | 90 => ⟨S4096x512, .f32⟩
  | 91 => ⟨S4096x1, .f32⟩
  | 92 => ⟨S4096x512, .f32⟩
  | 93 => ⟨S4096x512, .f32⟩
  | 94 => ⟨S4096x512, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S_, .i32⟩
  | 107 => ⟨S4096, .i32⟩
  | 108 => ⟨S4096, .i1⟩
  | 109 => ⟨S4096, .f32⟩
  | 110 => ⟨S_, .f32⟩
  | 111 => ⟨S_, .f32⟩
  | 112 => ⟨S_, .f32⟩
  | 113 => ⟨S_, .f32⟩
  | 114 => ⟨S4096x1, .f32⟩
  | 115 => ⟨S4096x512, .f32⟩
  | 116 => ⟨S4096x512, .f32⟩
  | 117 => ⟨S_, .f32⟩
  | 118 => ⟨S512, .f32⟩
  | 119 => ⟨S512, .f32⟩
  | 120 => ⟨S512, .f32⟩
  | 121 => ⟨S1x512, .f32⟩
  | 122 => ⟨S4096x512, .f32⟩
  | 123 => ⟨S4096x512, .f32⟩
  | 124 => ⟨S4096x1, .f32⟩
  | 125 => ⟨S4096x512, .f32⟩
  | 126 => ⟨S4096x512, .f32⟩
  | 127 => ⟨S4096x512, .f32⟩
  | _ => ⟨S4096x512, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .i1⟩
  | 7 => ⟨S_, .f32⟩
  | 8 => ⟨S_, .f32⟩
  | 9 => ⟨S_, .f32⟩
  | 10 => ⟨S_, .f32⟩
  | 11 => ⟨S_, .i32⟩
  | 12 => ⟨S4096, .i32⟩
  | 13 => ⟨S4096, .i1⟩
  | 14 => ⟨S4096, .f32⟩
  | 15 => ⟨S_, .f32⟩
  | 16 => ⟨S_, .f32⟩
  | 17 => ⟨S_, .f32⟩
  | 18 => ⟨S_, .f32⟩
  | 19 => ⟨S4096x1, .f32⟩
  | 20 => ⟨S4096x512, .f32⟩
  | 21 => ⟨S4096x512, .f32⟩
  | 22 => ⟨S_, .f32⟩
  | 23 => ⟨S512, .f32⟩
  | 24 => ⟨S512, .f32⟩
  | 25 => ⟨S512, .f32⟩
  | 26 => ⟨S1x512, .f32⟩
  | 27 => ⟨S4096x512, .f32⟩
  | 28 => ⟨S4096x512, .f32⟩
  | 29 => ⟨S4096x1, .f32⟩
  | 30 => ⟨S4096x512, .f32⟩
  | 31 => ⟨S4096x512, .f32⟩
  | 32 => ⟨S4096x512, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .i1⟩
  | 40 => ⟨S_, .f32⟩
  | 41 => ⟨S_, .f32⟩
  | 42 => ⟨S_, .f32⟩
  | 43 => ⟨S_, .f32⟩
  | 44 => ⟨S_, .i32⟩
  | 45 => ⟨S4096, .i32⟩
  | 46 => ⟨S4096, .i1⟩
  | 47 => ⟨S4096, .f32⟩
  | 48 => ⟨S_, .f32⟩
  | 49 => ⟨S_, .f32⟩
  | 50 => ⟨S_, .f32⟩
  | 51 => ⟨S_, .f32⟩
  | 52 => ⟨S4096x1, .f32⟩
  | 53 => ⟨S4096x512, .f32⟩
  | 54 => ⟨S4096x512, .f32⟩
  | 55 => ⟨S_, .f32⟩
  | 56 => ⟨S512, .f32⟩
  | 57 => ⟨S512, .f32⟩
  | 58 => ⟨S512, .f32⟩
  | 59 => ⟨S1x512, .f32⟩
  | 60 => ⟨S4096x512, .f32⟩
  | 61 => ⟨S4096x512, .f32⟩
  | 62 => ⟨S4096x1, .f32⟩
  | 63 => ⟨S4096x512, .f32⟩
  | 64 => ⟨S4096x512, .f32⟩
  | 65 => ⟨S4096x512, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .i1⟩
  | 73 => ⟨S_, .f32⟩
  | 74 => ⟨S_, .f32⟩
  | 75 => ⟨S_, .f32⟩
  | 76 => ⟨S_, .f32⟩
  | 77 => ⟨S_, .i32⟩
  | 78 => ⟨S4096, .i32⟩
  | 79 => ⟨S4096, .i1⟩
  | 80 => ⟨S4096, .f32⟩
  | 81 => ⟨S_, .f32⟩
  | 82 => ⟨S_, .f32⟩
  | 83 => ⟨S_, .f32⟩
  | 84 => ⟨S_, .f32⟩
  | 85 => ⟨S4096x1, .f32⟩
  | 86 => ⟨S4096x512, .f32⟩
  | 87 => ⟨S4096x512, .f32⟩
  | 88 => ⟨S_, .f32⟩
  | 89 => ⟨S512, .f32⟩
  | 90 => ⟨S512, .f32⟩
  | 91 => ⟨S512, .f32⟩
  | 92 => ⟨S1x512, .f32⟩
  | 93 => ⟨S4096x512, .f32⟩
  | 94 => ⟨S4096x512, .f32⟩
  | 95 => ⟨S4096x1, .f32⟩
  | 96 => ⟨S4096x512, .f32⟩
  | 97 => ⟨S4096x512, .f32⟩
  | 98 => ⟨S4096x512, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S_, .i32⟩
  | 111 => ⟨S4096, .i32⟩
  | 112 => ⟨S4096, .i1⟩
  | 113 => ⟨S4096, .f32⟩
  | 114 => ⟨S_, .f32⟩
  | 115 => ⟨S_, .f32⟩
  | 116 => ⟨S_, .f32⟩
  | 117 => ⟨S_, .f32⟩
  | 118 => ⟨S4096x1, .f32⟩
  | 119 => ⟨S4096x512, .f32⟩
  | 120 => ⟨S4096x512, .f32⟩
  | 121 => ⟨S_, .f32⟩
  | 122 => ⟨S512, .f32⟩
  | 123 => ⟨S512, .f32⟩
  | 124 => ⟨S512, .f32⟩
  | 125 => ⟨S1x512, .f32⟩
  | 126 => ⟨S4096x512, .f32⟩
  | 127 => ⟨S4096x512, .f32⟩
  | _ => ⟨S4096x512, .f32⟩

abbrev hbmTy0_3 (i : Nat) : BufTy := match i % 128 with
  | 0 => ⟨S4096x1, .f32⟩
  | 1 => ⟨S4096x512, .f32⟩
  | 2 => ⟨S4096x512, .f32⟩
  | 3 => ⟨S4096x512, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .i1⟩
  | 11 => ⟨S_, .f32⟩
  | 12 => ⟨S_, .f32⟩
  | 13 => ⟨S_, .f32⟩
  | 14 => ⟨S_, .f32⟩
  | 15 => ⟨S_, .i32⟩
  | 16 => ⟨S4096, .i32⟩
  | 17 => ⟨S4096, .i1⟩
  | 18 => ⟨S4096, .f32⟩
  | 19 => ⟨S_, .f32⟩
  | 20 => ⟨S_, .f32⟩
  | 21 => ⟨S_, .f32⟩
  | 22 => ⟨S_, .f32⟩
  | 23 => ⟨S4096x1, .f32⟩
  | 24 => ⟨S4096x512, .f32⟩
  | 25 => ⟨S4096x512, .f32⟩
  | 26 => ⟨S_, .f32⟩
  | 27 => ⟨S512, .f32⟩
  | 28 => ⟨S512, .f32⟩
  | 29 => ⟨S512, .f32⟩
  | 30 => ⟨S1x512, .f32⟩
  | 31 => ⟨S4096x512, .f32⟩
  | 32 => ⟨S4096x512, .f32⟩
  | 33 => ⟨S4096x1, .f32⟩
  | 34 => ⟨S4096x512, .f32⟩
  | 35 => ⟨S4096x512, .f32⟩
  | 36 => ⟨S4096x512, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i1⟩
  | 44 => ⟨S_, .f32⟩
  | 45 => ⟨S_, .f32⟩
  | 46 => ⟨S_, .f32⟩
  | 47 => ⟨S_, .f32⟩
  | 48 => ⟨S_, .i32⟩
  | 49 => ⟨S4096, .i32⟩
  | 50 => ⟨S4096, .i1⟩
  | 51 => ⟨S4096, .f32⟩
  | 52 => ⟨S_, .f32⟩
  | 53 => ⟨S_, .f32⟩
  | 54 => ⟨S_, .f32⟩
  | 55 => ⟨S_, .f32⟩
  | 56 => ⟨S4096x1, .f32⟩
  | 57 => ⟨S4096x512, .f32⟩
  | 58 => ⟨S4096x512, .f32⟩
  | 59 => ⟨S_, .f32⟩
  | 60 => ⟨S512, .f32⟩
  | 61 => ⟨S512, .f32⟩
  | 62 => ⟨S512, .f32⟩
  | 63 => ⟨S1x512, .f32⟩
  | 64 => ⟨S4096x512, .f32⟩
  | 65 => ⟨S4096x512, .f32⟩
  | 66 => ⟨S4096x1, .f32⟩
  | 67 => ⟨S4096x512, .f32⟩
  | 68 => ⟨S4096x512, .f32⟩
  | 69 => ⟨S4096x512, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .i1⟩
  | 77 => ⟨S_, .f32⟩
  | 78 => ⟨S_, .f32⟩
  | 79 => ⟨S_, .f32⟩
  | 80 => ⟨S_, .f32⟩
  | 81 => ⟨S_, .i32⟩
  | 82 => ⟨S4096, .i32⟩
  | 83 => ⟨S4096, .i1⟩
  | 84 => ⟨S4096, .f32⟩
  | 85 => ⟨S_, .f32⟩
  | 86 => ⟨S_, .f32⟩
  | 87 => ⟨S_, .f32⟩
  | 88 => ⟨S_, .f32⟩
  | 89 => ⟨S4096x1, .f32⟩
  | 90 => ⟨S4096x512, .f32⟩
  | 91 => ⟨S4096x512, .f32⟩
  | 92 => ⟨S_, .f32⟩
  | 93 => ⟨S512, .f32⟩
  | 94 => ⟨S512, .f32⟩
  | 95 => ⟨S512, .f32⟩
  | 96 => ⟨S1x512, .f32⟩
  | 97 => ⟨S4096x512, .f32⟩
  | 98 => ⟨S4096x512, .f32⟩
  | 99 => ⟨S4096x1, .f32⟩
  | 100 => ⟨S4096x512, .f32⟩
  | 101 => ⟨S4096x512, .f32⟩
  | 102 => ⟨S4096x512, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S_, .i32⟩
  | 115 => ⟨S4096, .i32⟩
  | 116 => ⟨S4096, .i1⟩
  | 117 => ⟨S4096, .f32⟩
  | 118 => ⟨S_, .f32⟩
  | 119 => ⟨S_, .f32⟩
  | 120 => ⟨S_, .f32⟩
  | 121 => ⟨S_, .f32⟩
  | 122 => ⟨S4096x1, .f32⟩
  | 123 => ⟨S4096x512, .f32⟩
  | 124 => ⟨S4096x512, .f32⟩
  | 125 => ⟨S_, .f32⟩
  | 126 => ⟨S512, .f32⟩
  | 127 => ⟨S512, .f32⟩
  | _ => ⟨S4096x512, .f32⟩

abbrev hbmTy0_4 (i : Nat) : BufTy := match i % 128 with
  | 0 => ⟨S512, .f32⟩
  | 1 => ⟨S1x512, .f32⟩
  | 2 => ⟨S4096x512, .f32⟩
  | 3 => ⟨S4096x512, .f32⟩
  | 4 => ⟨S4096x1, .f32⟩
  | 5 => ⟨S4096x512, .f32⟩
  | 6 => ⟨S4096x512, .f32⟩
  | 7 => ⟨S4096x512, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .i1⟩
  | 15 => ⟨S_, .f32⟩
  | 16 => ⟨S_, .f32⟩
  | 17 => ⟨S_, .f32⟩
  | 18 => ⟨S_, .f32⟩
  | 19 => ⟨S512, .f32⟩
  | 20 => ⟨S512, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S512, .f32⟩
  | 28 => ⟨S512, .f32⟩
  | 29 => ⟨S_, .f32⟩
  | 30 => ⟨S_, .f32⟩
  | 31 => ⟨S_, .f32⟩
  | 32 => ⟨S_, .f32⟩
  | 33 => ⟨S_, .f32⟩
  | 34 => ⟨S512, .f32⟩
  | 35 => ⟨S512, .f32⟩
  | 36 => ⟨S_, .f32⟩
  | 37 => ⟨S_, .f32⟩
  | 38 => ⟨S_, .f32⟩
  | 39 => ⟨S_, .f32⟩
  | 40 => ⟨S_, .f32⟩
  | 41 => ⟨S512, .f32⟩
  | 42 => ⟨S512, .f32⟩
  | 43 => ⟨S_, .f32⟩
  | 44 => ⟨S_, .f32⟩
  | 45 => ⟨S_, .f32⟩
  | 46 => ⟨S_, .f32⟩
  | 47 => ⟨S_, .f32⟩
  | 48 => ⟨S512, .f32⟩
  | 49 => ⟨S512, .f32⟩
  | 50 => ⟨S_, .f32⟩
  | 51 => ⟨S_, .f32⟩
  | 52 => ⟨S_, .f32⟩
  | 53 => ⟨S_, .f32⟩
  | 54 => ⟨S_, .f32⟩
  | 55 => ⟨S512, .f32⟩
  | 56 => ⟨S512, .f32⟩
  | 57 => ⟨S_, .f32⟩
  | 58 => ⟨S_, .f32⟩
  | 59 => ⟨S_, .f32⟩
  | 60 => ⟨S_, .f32⟩
  | 61 => ⟨S_, .f32⟩
  | 62 => ⟨S512, .f32⟩
  | 63 => ⟨S512, .f32⟩
  | 64 => ⟨S_, .f32⟩
  | 65 => ⟨S_, .f32⟩
  | 66 => ⟨S_, .f32⟩
  | 67 => ⟨S_, .f32⟩
  | 68 => ⟨S_, .f32⟩
  | 69 => ⟨S512, .f32⟩
  | 70 => ⟨S512, .f32⟩
  | 71 => ⟨S_, .f32⟩
  | 72 => ⟨S_, .f32⟩
  | 73 => ⟨S_, .f32⟩
  | 74 => ⟨S_, .f32⟩
  | 75 => ⟨S_, .f32⟩
  | 76 => ⟨S512, .f32⟩
  | 77 => ⟨S512, .f32⟩
  | 78 => ⟨S_, .f32⟩
  | 79 => ⟨S_, .f32⟩
  | 80 => ⟨S_, .f32⟩
  | 81 => ⟨S_, .f32⟩
  | 82 => ⟨S_, .f32⟩
  | 83 => ⟨S512, .f32⟩
  | 84 => ⟨S512, .f32⟩
  | 85 => ⟨S_, .f32⟩
  | 86 => ⟨S_, .f32⟩
  | 87 => ⟨S_, .f32⟩
  | 88 => ⟨S_, .f32⟩
  | 89 => ⟨S_, .f32⟩
  | 90 => ⟨S512, .f32⟩
  | 91 => ⟨S512, .f32⟩
  | 92 => ⟨S_, .f32⟩
  | 93 => ⟨S_, .f32⟩
  | 94 => ⟨S_, .f32⟩
  | 95 => ⟨S_, .f32⟩
  | 96 => ⟨S_, .f32⟩
  | 97 => ⟨S512, .f32⟩
  | 98 => ⟨S512, .f32⟩
  | 99 => ⟨S_, .f32⟩
  | 100 => ⟨S_, .f32⟩
  | 101 => ⟨S_, .f32⟩
  | 102 => ⟨S_, .f32⟩
  | 103 => ⟨S_, .f32⟩
  | 104 => ⟨S512, .f32⟩
  | 105 => ⟨S512, .f32⟩
  | 106 => ⟨S_, .f32⟩
  | 107 => ⟨S_, .f32⟩
  | 108 => ⟨S_, .f32⟩
  | 109 => ⟨S_, .f32⟩
  | 110 => ⟨S_, .f32⟩
  | 111 => ⟨S512, .f32⟩
  | 112 => ⟨S512, .f32⟩
  | 113 => ⟨S_, .f32⟩
  | 114 => ⟨S_, .f32⟩
  | 115 => ⟨S_, .f32⟩
  | 116 => ⟨S_, .f32⟩
  | 117 => ⟨S_, .f32⟩
  | 118 => ⟨S512, .f32⟩
  | 119 => ⟨S512, .f32⟩
  | 120 => ⟨S_, .f32⟩
  | 121 => ⟨S_, .f32⟩
  | 122 => ⟨S_, .f32⟩
  | 123 => ⟨S_, .f32⟩
  | 124 => ⟨S_, .f32⟩
  | 125 => ⟨S512, .f32⟩
  | 126 => ⟨S512, .f32⟩
  | 127 => ⟨S_, .f32⟩
  | _ => ⟨S4096x512, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S512, .f32⟩
  | 5 => ⟨S512, .f32⟩
  | 6 => ⟨S_, .f32⟩
  | 7 => ⟨S_, .f32⟩
  | 8 => ⟨S_, .f32⟩
  | 9 => ⟨S_, .f32⟩
  | 10 => ⟨S_, .f32⟩
  | 11 => ⟨S512, .f32⟩
  | 12 => ⟨S512, .f32⟩
  | 13 => ⟨S_, .f32⟩
  | 14 => ⟨S_, .f32⟩
  | 15 => ⟨S_, .f32⟩
  | 16 => ⟨S_, .f32⟩
  | 17 => ⟨S_, .f32⟩
  | 18 => ⟨S512, .f32⟩
  | 19 => ⟨S512, .f32⟩
  | 20 => ⟨S_, .f32⟩
  | 21 => ⟨S_, .f32⟩
  | 22 => ⟨S_, .f32⟩
  | 23 => ⟨S_, .f32⟩
  | 24 => ⟨S_, .f32⟩
  | 25 => ⟨S512, .f32⟩
  | 26 => ⟨S512, .f32⟩
  | 27 => ⟨S_, .f32⟩
  | 28 => ⟨S_, .f32⟩
  | 29 => ⟨S_, .f32⟩
  | 30 => ⟨S_, .f32⟩
  | 31 => ⟨S_, .f32⟩
  | 32 => ⟨S512, .f32⟩
  | 33 => ⟨S512, .f32⟩
  | 34 => ⟨S_, .f32⟩
  | 35 => ⟨S_, .f32⟩
  | 36 => ⟨S_, .f32⟩
  | 37 => ⟨S_, .f32⟩
  | 38 => ⟨S_, .f32⟩
  | 39 => ⟨S512, .f32⟩
  | 40 => ⟨S512, .f32⟩
  | 41 => ⟨S_, .f32⟩
  | 42 => ⟨S_, .f32⟩
  | 43 => ⟨S_, .f32⟩
  | 44 => ⟨S_, .f32⟩
  | 45 => ⟨S_, .f32⟩
  | 46 => ⟨S512, .f32⟩
  | 47 => ⟨S512, .f32⟩
  | 48 => ⟨S_, .f32⟩
  | 49 => ⟨S_, .f32⟩
  | 50 => ⟨S_, .f32⟩
  | 51 => ⟨S_, .f32⟩
  | 52 => ⟨S_, .f32⟩
  | 53 => ⟨S512, .f32⟩
  | 54 => ⟨S512, .f32⟩
  | 55 => ⟨S_, .f32⟩
  | 56 => ⟨S_, .f32⟩
  | 57 => ⟨S_, .f32⟩
  | 58 => ⟨S_, .f32⟩
  | 59 => ⟨S_, .f32⟩
  | 60 => ⟨S512, .f32⟩
  | 61 => ⟨S512, .f32⟩
  | 62 => ⟨S_, .f32⟩
  | 63 => ⟨S_, .f32⟩
  | 64 => ⟨S_, .f32⟩
  | 65 => ⟨S_, .f32⟩
  | 66 => ⟨S_, .f32⟩
  | 67 => ⟨S512, .f32⟩
  | 68 => ⟨S512, .f32⟩
  | 69 => ⟨S_, .f32⟩
  | 70 => ⟨S_, .f32⟩
  | 71 => ⟨S_, .f32⟩
  | 72 => ⟨S_, .f32⟩
  | 73 => ⟨S_, .f32⟩
  | 74 => ⟨S512, .f32⟩
  | 75 => ⟨S512, .f32⟩
  | 76 => ⟨S_, .f32⟩
  | 77 => ⟨S_, .f32⟩
  | 78 => ⟨S_, .f32⟩
  | 79 => ⟨S_, .f32⟩
  | 80 => ⟨S_, .f32⟩
  | 81 => ⟨S512, .f32⟩
  | 82 => ⟨S512, .f32⟩
  | 83 => ⟨S_, .f32⟩
  | 84 => ⟨S_, .f32⟩
  | 85 => ⟨S_, .f32⟩
  | 86 => ⟨S_, .f32⟩
  | 87 => ⟨S_, .f32⟩
  | 88 => ⟨S512, .f32⟩
  | 89 => ⟨S512, .f32⟩
  | 90 => ⟨S_, .f32⟩
  | 91 => ⟨S_, .f32⟩
  | 92 => ⟨S_, .f32⟩
  | 93 => ⟨S_, .f32⟩
  | 94 => ⟨S_, .f32⟩
  | 95 => ⟨S512, .f32⟩
  | 96 => ⟨S512, .f32⟩
  | 97 => ⟨S_, .f32⟩
  | 98 => ⟨S_, .f32⟩
  | 99 => ⟨S_, .f32⟩
  | 100 => ⟨S_, .f32⟩
  | 101 => ⟨S_, .f32⟩
  | 102 => ⟨S512, .f32⟩
  | 103 => ⟨S512, .f32⟩
  | 104 => ⟨S_, .f32⟩
  | 105 => ⟨S_, .f32⟩
  | 106 => ⟨S_, .f32⟩
  | 107 => ⟨S_, .f32⟩
  | 108 => ⟨S_, .f32⟩
  | 109 => ⟨S512, .f32⟩
  | 110 => ⟨S512, .f32⟩
  | 111 => ⟨S_, .f32⟩
  | 112 => ⟨S_, .f32⟩
  | 113 => ⟨S_, .f32⟩
  | 114 => ⟨S_, .f32⟩
  | 115 => ⟨S_, .f32⟩
  | 116 => ⟨S512, .f32⟩
  | 117 => ⟨S512, .f32⟩
  | 118 => ⟨S_, .f32⟩
  | 119 => ⟨S_, .f32⟩
  | 120 => ⟨S_, .f32⟩
  | 121 => ⟨S_, .f32⟩
  | 122 => ⟨S_, .f32⟩
  | 123 => ⟨S512, .f32⟩
  | 124 => ⟨S512, .f32⟩
  | 125 => ⟨S_, .f32⟩
  | 126 => ⟨S_, .f32⟩
  | 127 => ⟨S_, .f32⟩
  | _ => ⟨S4096x512, .f32⟩

abbrev hbmTy0_6 (i : Nat) : BufTy := match i % 128 with
  | 0 => ⟨S_, .f32⟩
  | 1 => ⟨S_, .f32⟩
  | 2 => ⟨S512, .f32⟩
  | 3 => ⟨S512, .f32⟩
  | 4 => ⟨S_, .f32⟩
  | 5 => ⟨S_, .f32⟩
  | 6 => ⟨S_, .f32⟩
  | 7 => ⟨S_, .f32⟩
  | 8 => ⟨S_, .f32⟩
  | 9 => ⟨S512, .f32⟩
  | 10 => ⟨S512, .f32⟩
  | 11 => ⟨S_, .f32⟩
  | 12 => ⟨S_, .f32⟩
  | 13 => ⟨S_, .f32⟩
  | 14 => ⟨S_, .f32⟩
  | 15 => ⟨S_, .f32⟩
  | 16 => ⟨S512, .f32⟩
  | 17 => ⟨S512, .f32⟩
  | 18 => ⟨S_, .f32⟩
  | 19 => ⟨S_, .f32⟩
  | 20 => ⟨S_, .f32⟩
  | 21 => ⟨S_, .f32⟩
  | 22 => ⟨S_, .f32⟩
  | 23 => ⟨S512, .f32⟩
  | 24 => ⟨S512, .f32⟩
  | 25 => ⟨S_, .f32⟩
  | 26 => ⟨S_, .f32⟩
  | 27 => ⟨S_, .f32⟩
  | 28 => ⟨S_, .f32⟩
  | 29 => ⟨S_, .f32⟩
  | 30 => ⟨S512, .f32⟩
  | 31 => ⟨S512, .f32⟩
  | 32 => ⟨S_, .f32⟩
  | 33 => ⟨S_, .f32⟩
  | 34 => ⟨S_, .f32⟩
  | 35 => ⟨S_, .f32⟩
  | 36 => ⟨S_, .f32⟩
  | 37 => ⟨S512, .f32⟩
  | 38 => ⟨S512, .f32⟩
  | 39 => ⟨S_, .f32⟩
  | 40 => ⟨S_, .f32⟩
  | 41 => ⟨S_, .f32⟩
  | 42 => ⟨S_, .f32⟩
  | 43 => ⟨S_, .f32⟩
  | 44 => ⟨S512, .f32⟩
  | 45 => ⟨S512, .f32⟩
  | 46 => ⟨S_, .f32⟩
  | 47 => ⟨S_, .f32⟩
  | 48 => ⟨S_, .f32⟩
  | 49 => ⟨S_, .f32⟩
  | 50 => ⟨S_, .f32⟩
  | 51 => ⟨S512, .f32⟩
  | 52 => ⟨S512, .f32⟩
  | 53 => ⟨S_, .f32⟩
  | 54 => ⟨S_, .f32⟩
  | 55 => ⟨S_, .f32⟩
  | 56 => ⟨S_, .f32⟩
  | 57 => ⟨S_, .f32⟩
  | 58 => ⟨S512, .f32⟩
  | 59 => ⟨S512, .f32⟩
  | 60 => ⟨S_, .f32⟩
  | 61 => ⟨S_, .f32⟩
  | 62 => ⟨S_, .f32⟩
  | 63 => ⟨S_, .f32⟩
  | 64 => ⟨S_, .f32⟩
  | 65 => ⟨S512, .f32⟩
  | 66 => ⟨S512, .f32⟩
  | 67 => ⟨S_, .f32⟩
  | 68 => ⟨S_, .f32⟩
  | 69 => ⟨S_, .f32⟩
  | 70 => ⟨S_, .f32⟩
  | 71 => ⟨S_, .f32⟩
  | 72 => ⟨S512, .f32⟩
  | 73 => ⟨S512, .f32⟩
  | 74 => ⟨S_, .f32⟩
  | 75 => ⟨S_, .f32⟩
  | 76 => ⟨S_, .f32⟩
  | 77 => ⟨S_, .f32⟩
  | 78 => ⟨S_, .f32⟩
  | 79 => ⟨S512, .f32⟩
  | 80 => ⟨S512, .f32⟩
  | 81 => ⟨S_, .f32⟩
  | 82 => ⟨S_, .f32⟩
  | 83 => ⟨S_, .f32⟩
  | 84 => ⟨S_, .f32⟩
  | 85 => ⟨S_, .f32⟩
  | 86 => ⟨S512, .f32⟩
  | 87 => ⟨S512, .f32⟩
  | 88 => ⟨S_, .f32⟩
  | 89 => ⟨S_, .f32⟩
  | 90 => ⟨S_, .f32⟩
  | 91 => ⟨S_, .f32⟩
  | 92 => ⟨S_, .f32⟩
  | 93 => ⟨S512, .f32⟩
  | 94 => ⟨S512, .f32⟩
  | 95 => ⟨S_, .f32⟩
  | 96 => ⟨S_, .f32⟩
  | 97 => ⟨S_, .f32⟩
  | 98 => ⟨S_, .f32⟩
  | 99 => ⟨S_, .f32⟩
  | 100 => ⟨S512, .f32⟩
  | 101 => ⟨S512, .f32⟩
  | 102 => ⟨S_, .f32⟩
  | 103 => ⟨S_, .f32⟩
  | 104 => ⟨S_, .f32⟩
  | 105 => ⟨S_, .f32⟩
  | 106 => ⟨S_, .f32⟩
  | 107 => ⟨S512, .f32⟩
  | 108 => ⟨S512, .f32⟩
  | 109 => ⟨S_, .f32⟩
  | 110 => ⟨S_, .f32⟩
  | 111 => ⟨S_, .f32⟩
  | 112 => ⟨S_, .f32⟩
  | 113 => ⟨S_, .f32⟩
  | 114 => ⟨S512, .f32⟩
  | 115 => ⟨S512, .f32⟩
  | 116 => ⟨S_, .f32⟩
  | 117 => ⟨S_, .f32⟩
  | 118 => ⟨S_, .f32⟩
  | 119 => ⟨S_, .f32⟩
  | 120 => ⟨S_, .f32⟩
  | 121 => ⟨S512, .f32⟩
  | 122 => ⟨S512, .f32⟩
  | 123 => ⟨S_, .f32⟩
  | 124 => ⟨S_, .f32⟩
  | 125 => ⟨S_, .f32⟩
  | 126 => ⟨S_, .f32⟩
  | 127 => ⟨S_, .f32⟩
  | _ => ⟨S4096x512, .f32⟩

abbrev hbmTy0_7 (i : Nat) : BufTy := match i % 128 with
  | 0 => ⟨S512, .f32⟩
  | 1 => ⟨S512, .f32⟩
  | 2 => ⟨S_, .f32⟩
  | 3 => ⟨S_, .f32⟩
  | 4 => ⟨S_, .f32⟩
  | 5 => ⟨S_, .f32⟩
  | 6 => ⟨S_, .f32⟩
  | 7 => ⟨S512, .f32⟩
  | 8 => ⟨S512, .f32⟩
  | 9 => ⟨S_, .f32⟩
  | 10 => ⟨S_, .f32⟩
  | 11 => ⟨S_, .f32⟩
  | 12 => ⟨S_, .f32⟩
  | 13 => ⟨S_, .f32⟩
  | 14 => ⟨S512, .f32⟩
  | 15 => ⟨S512, .f32⟩
  | 16 => ⟨S_, .f32⟩
  | 17 => ⟨S_, .f32⟩
  | 18 => ⟨S_, .f32⟩
  | 19 => ⟨S_, .f32⟩
  | 20 => ⟨S_, .f32⟩
  | 21 => ⟨S512, .f32⟩
  | 22 => ⟨S512, .f32⟩
  | 23 => ⟨S_, .f32⟩
  | 24 => ⟨S_, .f32⟩
  | 25 => ⟨S_, .f32⟩
  | 26 => ⟨S_, .f32⟩
  | 27 => ⟨S_, .f32⟩
  | 28 => ⟨S512, .f32⟩
  | 29 => ⟨S512, .f32⟩
  | 30 => ⟨S_, .f32⟩
  | 31 => ⟨S_, .f32⟩
  | 32 => ⟨S_, .f32⟩
  | 33 => ⟨S_, .f32⟩
  | 34 => ⟨S_, .f32⟩
  | 35 => ⟨S512, .f32⟩
  | 36 => ⟨S512, .f32⟩
  | 37 => ⟨S_, .f32⟩
  | 38 => ⟨S_, .f32⟩
  | 39 => ⟨S_, .f32⟩
  | 40 => ⟨S_, .f32⟩
  | 41 => ⟨S_, .f32⟩
  | 42 => ⟨S512, .f32⟩
  | 43 => ⟨S512, .f32⟩
  | 44 => ⟨S_, .f32⟩
  | 45 => ⟨S_, .f32⟩
  | 46 => ⟨S_, .f32⟩
  | 47 => ⟨S_, .f32⟩
  | 48 => ⟨S_, .f32⟩
  | 49 => ⟨S512, .f32⟩
  | 50 => ⟨S512, .f32⟩
  | 51 => ⟨S_, .f32⟩
  | 52 => ⟨S_, .f32⟩
  | 53 => ⟨S_, .f32⟩
  | 54 => ⟨S_, .f32⟩
  | 55 => ⟨S_, .f32⟩
  | 56 => ⟨S512, .f32⟩
  | 57 => ⟨S512, .f32⟩
  | 58 => ⟨S_, .f32⟩
  | 59 => ⟨S_, .f32⟩
  | 60 => ⟨S_, .f32⟩
  | 61 => ⟨S_, .f32⟩
  | 62 => ⟨S_, .f32⟩
  | 63 => ⟨S512, .f32⟩
  | 64 => ⟨S512, .f32⟩
  | 65 => ⟨S_, .f32⟩
  | 66 => ⟨S_, .f32⟩
  | 67 => ⟨S_, .f32⟩
  | 68 => ⟨S_, .f32⟩
  | 69 => ⟨S_, .f32⟩
  | 70 => ⟨S512, .f32⟩
  | 71 => ⟨S512, .f32⟩
  | 72 => ⟨S_, .f32⟩
  | 73 => ⟨S_, .f32⟩
  | 74 => ⟨S_, .f32⟩
  | 75 => ⟨S_, .f32⟩
  | 76 => ⟨S_, .f32⟩
  | 77 => ⟨S512, .f32⟩
  | 78 => ⟨S512, .f32⟩
  | 79 => ⟨S_, .f32⟩
  | 80 => ⟨S_, .f32⟩
  | 81 => ⟨S_, .f32⟩
  | 82 => ⟨S_, .f32⟩
  | 83 => ⟨S_, .f32⟩
  | 84 => ⟨S512, .f32⟩
  | 85 => ⟨S512, .f32⟩
  | 86 => ⟨S_, .f32⟩
  | 87 => ⟨S_, .f32⟩
  | 88 => ⟨S_, .f32⟩
  | 89 => ⟨S_, .f32⟩
  | 90 => ⟨S_, .f32⟩
  | 91 => ⟨S512, .f32⟩
  | 92 => ⟨S512, .f32⟩
  | 93 => ⟨S_, .f32⟩
  | 94 => ⟨S_, .f32⟩
  | 95 => ⟨S_, .f32⟩
  | 96 => ⟨S_, .f32⟩
  | 97 => ⟨S_, .f32⟩
  | 98 => ⟨S512, .f32⟩
  | 99 => ⟨S512, .f32⟩
  | 100 => ⟨S_, .f32⟩
  | 101 => ⟨S_, .f32⟩
  | 102 => ⟨S_, .f32⟩
  | 103 => ⟨S_, .f32⟩
  | 104 => ⟨S_, .f32⟩
  | 105 => ⟨S512, .f32⟩
  | 106 => ⟨S512, .f32⟩
  | 107 => ⟨S_, .f32⟩
  | 108 => ⟨S_, .f32⟩
  | 109 => ⟨S_, .f32⟩
  | 110 => ⟨S_, .f32⟩
  | 111 => ⟨S_, .f32⟩
  | 112 => ⟨S512, .f32⟩
  | 113 => ⟨S512, .f32⟩
  | 114 => ⟨S_, .f32⟩
  | 115 => ⟨S_, .f32⟩
  | 116 => ⟨S_, .f32⟩
  | 117 => ⟨S_, .f32⟩
  | 118 => ⟨S_, .f32⟩
  | 119 => ⟨S512, .f32⟩
  | 120 => ⟨S512, .f32⟩
  | 121 => ⟨S_, .f32⟩
  | 122 => ⟨S_, .f32⟩
  | 123 => ⟨S_, .f32⟩
  | 124 => ⟨S_, .f32⟩
  | 125 => ⟨S_, .f32⟩
  | 126 => ⟨S512, .f32⟩
  | 127 => ⟨S512, .f32⟩
  | _ => ⟨S4096x512, .f32⟩

abbrev hbmTy0_8 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S512, .f32⟩
  | 6 => ⟨S512, .f32⟩
  | 7 => ⟨S_, .f32⟩
  | 8 => ⟨S_, .f32⟩
  | 9 => ⟨S_, .f32⟩
  | 10 => ⟨S_, .f32⟩
  | 11 => ⟨S_, .f32⟩
  | 12 => ⟨S512, .f32⟩
  | 13 => ⟨S512, .f32⟩
  | 14 => ⟨S_, .f32⟩
  | 15 => ⟨S_, .f32⟩
  | 16 => ⟨S_, .f32⟩
  | 17 => ⟨S_, .f32⟩
  | 18 => ⟨S_, .f32⟩
  | 19 => ⟨S512, .f32⟩
  | 20 => ⟨S512, .f32⟩
  | 21 => ⟨S_, .f32⟩
  | 22 => ⟨S_, .f32⟩
  | 23 => ⟨S_, .f32⟩
  | 24 => ⟨S_, .f32⟩
  | 25 => ⟨S_, .f32⟩
  | 26 => ⟨S512, .f32⟩
  | 27 => ⟨S512, .f32⟩
  | 28 => ⟨S_, .f32⟩
  | 29 => ⟨S_, .f32⟩
  | 30 => ⟨S_, .f32⟩
  | 31 => ⟨S_, .f32⟩
  | 32 => ⟨S_, .f32⟩
  | 33 => ⟨S512, .f32⟩
  | 34 => ⟨S512, .f32⟩
  | 35 => ⟨S_, .f32⟩
  | 36 => ⟨S_, .f32⟩
  | 37 => ⟨S_, .f32⟩
  | 38 => ⟨S_, .f32⟩
  | 39 => ⟨S_, .f32⟩
  | 40 => ⟨S512, .f32⟩
  | 41 => ⟨S512, .f32⟩
  | 42 => ⟨S_, .f32⟩
  | 43 => ⟨S_, .f32⟩
  | 44 => ⟨S_, .f32⟩
  | 45 => ⟨S_, .f32⟩
  | 46 => ⟨S_, .f32⟩
  | 47 => ⟨S512, .f32⟩
  | 48 => ⟨S512, .f32⟩
  | 49 => ⟨S_, .f32⟩
  | 50 => ⟨S_, .f32⟩
  | 51 => ⟨S_, .f32⟩
  | 52 => ⟨S_, .f32⟩
  | 53 => ⟨S_, .f32⟩
  | 54 => ⟨S512, .f32⟩
  | 55 => ⟨S512, .f32⟩
  | 56 => ⟨S_, .f32⟩
  | 57 => ⟨S_, .f32⟩
  | 58 => ⟨S_, .f32⟩
  | 59 => ⟨S_, .f32⟩
  | 60 => ⟨S_, .f32⟩
  | 61 => ⟨S512, .f32⟩
  | 62 => ⟨S512, .f32⟩
  | 63 => ⟨S_, .f32⟩
  | 64 => ⟨S_, .f32⟩
  | 65 => ⟨S_, .f32⟩
  | 66 => ⟨S_, .f32⟩
  | 67 => ⟨S_, .f32⟩
  | 68 => ⟨S512, .f32⟩
  | 69 => ⟨S512, .f32⟩
  | 70 => ⟨S_, .f32⟩
  | 71 => ⟨S_, .f32⟩
  | 72 => ⟨S_, .f32⟩
  | 73 => ⟨S_, .f32⟩
  | 74 => ⟨S_, .f32⟩
  | 75 => ⟨S512, .f32⟩
  | 76 => ⟨S512, .f32⟩
  | 77 => ⟨S_, .f32⟩
  | 78 => ⟨S_, .f32⟩
  | 79 => ⟨S_, .f32⟩
  | 80 => ⟨S_, .f32⟩
  | 81 => ⟨S_, .f32⟩
  | 82 => ⟨S512, .f32⟩
  | 83 => ⟨S512, .f32⟩
  | 84 => ⟨S_, .f32⟩
  | 85 => ⟨S_, .f32⟩
  | 86 => ⟨S_, .f32⟩
  | 87 => ⟨S_, .f32⟩
  | 88 => ⟨S_, .f32⟩
  | 89 => ⟨S512, .f32⟩
  | 90 => ⟨S512, .f32⟩
  | 91 => ⟨S_, .f32⟩
  | 92 => ⟨S_, .f32⟩
  | 93 => ⟨S_, .f32⟩
  | 94 => ⟨S_, .f32⟩
  | 95 => ⟨S_, .f32⟩
  | 96 => ⟨S512, .f32⟩
  | 97 => ⟨S512, .f32⟩
  | 98 => ⟨S_, .f32⟩
  | 99 => ⟨S_, .f32⟩
  | 100 => ⟨S_, .f32⟩
  | 101 => ⟨S_, .f32⟩
  | 102 => ⟨S_, .f32⟩
  | 103 => ⟨S512, .f32⟩
  | 104 => ⟨S512, .f32⟩
  | 105 => ⟨S_, .f32⟩
  | 106 => ⟨S_, .f32⟩
  | 107 => ⟨S_, .f32⟩
  | 108 => ⟨S_, .f32⟩
  | 109 => ⟨S_, .f32⟩
  | 110 => ⟨S512, .f32⟩
  | 111 => ⟨S512, .f32⟩
  | 112 => ⟨S_, .f32⟩
  | 113 => ⟨S_, .f32⟩
  | 114 => ⟨S_, .f32⟩
  | 115 => ⟨S_, .f32⟩
  | 116 => ⟨S_, .f32⟩
  | 117 => ⟨S512, .f32⟩
  | 118 => ⟨S512, .f32⟩
  | 119 => ⟨S_, .f32⟩
  | 120 => ⟨S_, .f32⟩
  | 121 => ⟨S_, .f32⟩
  | 122 => ⟨S_, .f32⟩
  | 123 => ⟨S_, .f32⟩
  | 124 => ⟨S512, .f32⟩
  | 125 => ⟨S512, .f32⟩
  | 126 => ⟨S_, .f32⟩
  | 127 => ⟨S_, .f32⟩
  | _ => ⟨S4096x512, .f32⟩

abbrev hbmTy0_9 (i : Nat) : BufTy := match i % 128 with
  | 0 => ⟨S_, .f32⟩
  | 1 => ⟨S_, .f32⟩
  | 2 => ⟨S_, .f32⟩
  | 3 => ⟨S512, .f32⟩
  | 4 => ⟨S512, .f32⟩
  | 5 => ⟨S_, .f32⟩
  | 6 => ⟨S_, .f32⟩
  | 7 => ⟨S_, .f32⟩
  | 8 => ⟨S_, .f32⟩
  | 9 => ⟨S_, .f32⟩
  | 10 => ⟨S512, .f32⟩
  | 11 => ⟨S512, .f32⟩
  | 12 => ⟨S_, .f32⟩
  | 13 => ⟨S_, .f32⟩
  | 14 => ⟨S_, .f32⟩
  | 15 => ⟨S_, .f32⟩
  | 16 => ⟨S_, .f32⟩
  | 17 => ⟨S512, .f32⟩
  | 18 => ⟨S512, .f32⟩
  | 19 => ⟨S_, .f32⟩
  | 20 => ⟨S_, .f32⟩
  | 21 => ⟨S_, .f32⟩
  | 22 => ⟨S_, .f32⟩
  | 23 => ⟨S_, .f32⟩
  | 24 => ⟨S512, .f32⟩
  | 25 => ⟨S512, .f32⟩
  | 26 => ⟨S_, .f32⟩
  | 27 => ⟨S_, .f32⟩
  | 28 => ⟨S_, .f32⟩
  | 29 => ⟨S_, .f32⟩
  | 30 => ⟨S_, .f32⟩
  | 31 => ⟨S512, .f32⟩
  | 32 => ⟨S512, .f32⟩
  | 33 => ⟨S_, .f32⟩
  | 34 => ⟨S_, .f32⟩
  | 35 => ⟨S_, .f32⟩
  | 36 => ⟨S_, .f32⟩
  | 37 => ⟨S_, .f32⟩
  | 38 => ⟨S512, .f32⟩
  | 39 => ⟨S512, .f32⟩
  | 40 => ⟨S_, .f32⟩
  | 41 => ⟨S_, .f32⟩
  | 42 => ⟨S_, .f32⟩
  | 43 => ⟨S_, .f32⟩
  | 44 => ⟨S_, .f32⟩
  | 45 => ⟨S512, .f32⟩
  | 46 => ⟨S512, .f32⟩
  | 47 => ⟨S_, .f32⟩
  | 48 => ⟨S_, .f32⟩
  | 49 => ⟨S_, .f32⟩
  | 50 => ⟨S_, .f32⟩
  | 51 => ⟨S_, .f32⟩
  | 52 => ⟨S512, .f32⟩
  | 53 => ⟨S512, .f32⟩
  | 54 => ⟨S_, .f32⟩
  | 55 => ⟨S_, .f32⟩
  | 56 => ⟨S_, .f32⟩
  | 57 => ⟨S_, .f32⟩
  | 58 => ⟨S_, .f32⟩
  | 59 => ⟨S512, .f32⟩
  | 60 => ⟨S512, .f32⟩
  | 61 => ⟨S_, .f32⟩
  | 62 => ⟨S_, .f32⟩
  | 63 => ⟨S_, .f32⟩
  | 64 => ⟨S_, .f32⟩
  | 65 => ⟨S_, .f32⟩
  | 66 => ⟨S512, .f32⟩
  | 67 => ⟨S512, .f32⟩
  | 68 => ⟨S_, .f32⟩
  | 69 => ⟨S_, .f32⟩
  | 70 => ⟨S_, .f32⟩
  | 71 => ⟨S_, .f32⟩
  | 72 => ⟨S_, .f32⟩
  | 73 => ⟨S512, .f32⟩
  | 74 => ⟨S512, .f32⟩
  | 75 => ⟨S_, .f32⟩
  | 76 => ⟨S_, .f32⟩
  | 77 => ⟨S_, .f32⟩
  | 78 => ⟨S_, .f32⟩
  | 79 => ⟨S_, .f32⟩
  | 80 => ⟨S512, .f32⟩
  | 81 => ⟨S512, .f32⟩
  | 82 => ⟨S_, .f32⟩
  | 83 => ⟨S_, .f32⟩
  | 84 => ⟨S_, .f32⟩
  | 85 => ⟨S_, .f32⟩
  | 86 => ⟨S_, .f32⟩
  | 87 => ⟨S512, .f32⟩
  | 88 => ⟨S512, .f32⟩
  | 89 => ⟨S_, .f32⟩
  | 90 => ⟨S_, .f32⟩
  | 91 => ⟨S_, .f32⟩
  | 92 => ⟨S_, .f32⟩
  | 93 => ⟨S_, .f32⟩
  | 94 => ⟨S512, .f32⟩
  | 95 => ⟨S512, .f32⟩
  | 96 => ⟨S_, .f32⟩
  | 97 => ⟨S_, .f32⟩
  | 98 => ⟨S_, .f32⟩
  | 99 => ⟨S_, .f32⟩
  | 100 => ⟨S_, .f32⟩
  | 101 => ⟨S512, .f32⟩
  | 102 => ⟨S512, .f32⟩
  | 103 => ⟨S_, .f32⟩
  | 104 => ⟨S_, .f32⟩
  | 105 => ⟨S_, .f32⟩
  | 106 => ⟨S_, .f32⟩
  | 107 => ⟨S_, .f32⟩
  | 108 => ⟨S512, .f32⟩
  | 109 => ⟨S512, .f32⟩
  | 110 => ⟨S_, .f32⟩
  | 111 => ⟨S_, .f32⟩
  | 112 => ⟨S_, .f32⟩
  | 113 => ⟨S_, .f32⟩
  | 114 => ⟨S_, .f32⟩
  | 115 => ⟨S512, .f32⟩
  | 116 => ⟨S512, .f32⟩
  | 117 => ⟨S_, .f32⟩
  | 118 => ⟨S_, .f32⟩
  | 119 => ⟨S_, .f32⟩
  | 120 => ⟨S_, .f32⟩
  | 121 => ⟨S_, .f32⟩
  | 122 => ⟨S512, .f32⟩
  | 123 => ⟨S512, .f32⟩
  | 124 => ⟨S_, .f32⟩
  | 125 => ⟨S_, .f32⟩
  | 126 => ⟨S_, .f32⟩
  | 127 => ⟨S_, .f32⟩
  | _ => ⟨S4096x512, .f32⟩

abbrev hbmTy0_10 (i : Nat) : BufTy := match i % 128 with
  | 0 => ⟨S_, .f32⟩
  | 1 => ⟨S512, .f32⟩
  | 2 => ⟨S512, .f32⟩
  | 3 => ⟨S_, .f32⟩
  | 4 => ⟨S_, .f32⟩
  | 5 => ⟨S_, .f32⟩
  | 6 => ⟨S_, .f32⟩
  | 7 => ⟨S_, .f32⟩
  | 8 => ⟨S512, .f32⟩
  | 9 => ⟨S512, .f32⟩
  | 10 => ⟨S_, .f32⟩
  | 11 => ⟨S_, .f32⟩
  | 12 => ⟨S_, .f32⟩
  | 13 => ⟨S_, .f32⟩
  | 14 => ⟨S_, .f32⟩
  | 15 => ⟨S512, .f32⟩
  | 16 => ⟨S512, .f32⟩
  | 17 => ⟨S_, .f32⟩
  | 18 => ⟨S_, .f32⟩
  | 19 => ⟨S_, .f32⟩
  | 20 => ⟨S_, .f32⟩
  | 21 => ⟨S_, .f32⟩
  | 22 => ⟨S512, .f32⟩
  | 23 => ⟨S512, .f32⟩
  | 24 => ⟨S_, .f32⟩
  | 25 => ⟨S_, .f32⟩
  | 26 => ⟨S_, .f32⟩
  | 27 => ⟨S_, .f32⟩
  | 28 => ⟨S_, .f32⟩
  | 29 => ⟨S512, .f32⟩
  | 30 => ⟨S512, .f32⟩
  | 31 => ⟨S_, .f32⟩
  | 32 => ⟨S_, .f32⟩
  | 33 => ⟨S_, .f32⟩
  | 34 => ⟨S_, .f32⟩
  | 35 => ⟨S_, .f32⟩
  | 36 => ⟨S512, .f32⟩
  | 37 => ⟨S512, .f32⟩
  | 38 => ⟨S_, .f32⟩
  | 39 => ⟨S_, .f32⟩
  | 40 => ⟨S_, .f32⟩
  | 41 => ⟨S_, .f32⟩
  | 42 => ⟨S_, .f32⟩
  | 43 => ⟨S512, .f32⟩
  | 44 => ⟨S512, .f32⟩
  | 45 => ⟨S_, .f32⟩
  | 46 => ⟨S_, .f32⟩
  | 47 => ⟨S_, .f32⟩
  | 48 => ⟨S_, .f32⟩
  | 49 => ⟨S_, .f32⟩
  | 50 => ⟨S512, .f32⟩
  | 51 => ⟨S512, .f32⟩
  | 52 => ⟨S_, .f32⟩
  | 53 => ⟨S_, .f32⟩
  | 54 => ⟨S_, .f32⟩
  | 55 => ⟨S_, .f32⟩
  | 56 => ⟨S_, .f32⟩
  | 57 => ⟨S512, .f32⟩
  | 58 => ⟨S512, .f32⟩
  | 59 => ⟨S_, .f32⟩
  | 60 => ⟨S_, .f32⟩
  | 61 => ⟨S_, .f32⟩
  | 62 => ⟨S_, .f32⟩
  | 63 => ⟨S_, .f32⟩
  | 64 => ⟨S512, .f32⟩
  | 65 => ⟨S512, .f32⟩
  | 66 => ⟨S_, .f32⟩
  | 67 => ⟨S_, .f32⟩
  | 68 => ⟨S_, .f32⟩
  | 69 => ⟨S_, .f32⟩
  | 70 => ⟨S_, .f32⟩
  | 71 => ⟨S512, .f32⟩
  | 72 => ⟨S512, .f32⟩
  | 73 => ⟨S_, .f32⟩
  | 74 => ⟨S_, .f32⟩
  | 75 => ⟨S_, .f32⟩
  | 76 => ⟨S_, .f32⟩
  | 77 => ⟨S_, .f32⟩
  | 78 => ⟨S512, .f32⟩
  | 79 => ⟨S512, .f32⟩
  | 80 => ⟨S_, .f32⟩
  | 81 => ⟨S_, .f32⟩
  | 82 => ⟨S_, .f32⟩
  | 83 => ⟨S_, .f32⟩
  | 84 => ⟨S_, .f32⟩
  | 85 => ⟨S512, .f32⟩
  | 86 => ⟨S512, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_call0_v0 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_cst_14 : Ref sig .tc := ⟨.hbm, 65, rfl⟩
abbrev main_call1_v0 : Ref sig .tc := ⟨.hbm, 66, rfl⟩
abbrev main_v46 : Ref sig .tc := ⟨.hbm, 67, rfl⟩
abbrev main_v47 : Ref sig .tc := ⟨.hbm, 68, rfl⟩
abbrev main_c_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_cst_17 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_cst_20 : Ref sig .tc := ⟨.hbm, 93, rfl⟩
abbrev main_v67 : Ref sig .tc := ⟨.hbm, 94, rfl⟩
abbrev main_v68 : Ref sig .tc := ⟨.hbm, 95, rfl⟩
abbrev main_cst_21 : Ref sig .tc := ⟨.hbm, 96, rfl⟩
abbrev main_v69 : Ref sig .tc := ⟨.hbm, 97, rfl⟩
abbrev main_cst_22 : Ref sig .tc := ⟨.hbm, 98, rfl⟩
abbrev main_call2_v0 : Ref sig .tc := ⟨.hbm, 99, rfl⟩
abbrev main_v70 : Ref sig .tc := ⟨.hbm, 100, rfl⟩
abbrev main_v71 : Ref sig .tc := ⟨.hbm, 101, rfl⟩
abbrev main_c_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_24 : Ref sig .tc := ⟨.hbm, 106, rfl⟩
abbrev main_v75 : Ref sig .tc := ⟨.hbm, 107, rfl⟩
abbrev main_cst_25 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_26 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_27 : Ref sig .tc := ⟨.hbm, 124, rfl⟩
abbrev main_v90 : Ref sig .tc := ⟨.hbm, 125, rfl⟩
abbrev main_cst_28 : Ref sig .tc := ⟨.hbm, 126, rfl⟩
abbrev main_v91 : Ref sig .tc := ⟨.hbm, 127, rfl⟩
abbrev main_v92 : Ref sig .tc := ⟨.hbm, 128, rfl⟩
abbrev main_cst_29 : Ref sig .tc := ⟨.hbm, 129, rfl⟩
abbrev main_v93 : Ref sig .tc := ⟨.hbm, 130, rfl⟩
abbrev main_cst_30 : Ref sig .tc := ⟨.hbm, 131, rfl⟩
abbrev main_call3_v0 : Ref sig .tc := ⟨.hbm, 132, rfl⟩
abbrev main_v94 : Ref sig .tc := ⟨.hbm, 133, rfl⟩
abbrev main_v95 : Ref sig .tc := ⟨.hbm, 134, rfl⟩
abbrev main_c_31 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_32 : Ref sig .tc := ⟨.hbm, 139, rfl⟩
abbrev main_v99 : Ref sig .tc := ⟨.hbm, 140, rfl⟩
abbrev main_cst_33 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_34 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_35 : Ref sig .tc := ⟨.hbm, 157, rfl⟩
abbrev main_v114 : Ref sig .tc := ⟨.hbm, 158, rfl⟩
abbrev main_cst_36 : Ref sig .tc := ⟨.hbm, 159, rfl⟩
abbrev main_v115 : Ref sig .tc := ⟨.hbm, 160, rfl⟩
abbrev main_v116 : Ref sig .tc := ⟨.hbm, 161, rfl⟩
abbrev main_cst_37 : Ref sig .tc := ⟨.hbm, 162, rfl⟩
abbrev main_v117 : Ref sig .tc := ⟨.hbm, 163, rfl⟩
abbrev main_cst_38 : Ref sig .tc := ⟨.hbm, 164, rfl⟩
abbrev main_call4_v0 : Ref sig .tc := ⟨.hbm, 165, rfl⟩
abbrev main_v118 : Ref sig .tc := ⟨.hbm, 166, rfl⟩
abbrev main_v119 : Ref sig .tc := ⟨.hbm, 167, rfl⟩
abbrev main_c_39 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_40 : Ref sig .tc := ⟨.hbm, 172, rfl⟩
abbrev main_v123 : Ref sig .tc := ⟨.hbm, 173, rfl⟩
abbrev main_cst_41 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_42 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_43 : Ref sig .tc := ⟨.hbm, 190, rfl⟩
abbrev main_v138 : Ref sig .tc := ⟨.hbm, 191, rfl⟩
abbrev main_cst_44 : Ref sig .tc := ⟨.hbm, 192, rfl⟩
abbrev main_v139 : Ref sig .tc := ⟨.hbm, 193, rfl⟩
abbrev main_v140 : Ref sig .tc := ⟨.hbm, 194, rfl⟩
abbrev main_cst_45 : Ref sig .tc := ⟨.hbm, 195, rfl⟩
abbrev main_v141 : Ref sig .tc := ⟨.hbm, 196, rfl⟩
abbrev main_cst_46 : Ref sig .tc := ⟨.hbm, 197, rfl⟩
abbrev main_call5_v0 : Ref sig .tc := ⟨.hbm, 198, rfl⟩
abbrev main_v142 : Ref sig .tc := ⟨.hbm, 199, rfl⟩
abbrev main_v143 : Ref sig .tc := ⟨.hbm, 200, rfl⟩
abbrev main_c_47 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_48 : Ref sig .tc := ⟨.hbm, 205, rfl⟩
abbrev main_v147 : Ref sig .tc := ⟨.hbm, 206, rfl⟩
abbrev main_cst_49 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_50 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_51 : Ref sig .tc := ⟨.hbm, 223, rfl⟩
abbrev main_v162 : Ref sig .tc := ⟨.hbm, 224, rfl⟩
abbrev main_cst_52 : Ref sig .tc := ⟨.hbm, 225, rfl⟩
abbrev main_v163 : Ref sig .tc := ⟨.hbm, 226, rfl⟩
abbrev main_v164 : Ref sig .tc := ⟨.hbm, 227, rfl⟩
abbrev main_cst_53 : Ref sig .tc := ⟨.hbm, 228, rfl⟩
abbrev main_v165 : Ref sig .tc := ⟨.hbm, 229, rfl⟩
abbrev main_cst_54 : Ref sig .tc := ⟨.hbm, 230, rfl⟩
abbrev main_call6_v0 : Ref sig .tc := ⟨.hbm, 231, rfl⟩
abbrev main_v166 : Ref sig .tc := ⟨.hbm, 232, rfl⟩
abbrev main_v167 : Ref sig .tc := ⟨.hbm, 233, rfl⟩
abbrev main_c_55 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_cst_56 : Ref sig .tc := ⟨.hbm, 238, rfl⟩
abbrev main_v171 : Ref sig .tc := ⟨.hbm, 239, rfl⟩
abbrev main_cst_57 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_cst_58 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_cst_59 : Ref sig .tc := ⟨.hbm, 256, rfl⟩
abbrev main_v186 : Ref sig .tc := ⟨.hbm, 257, rfl⟩
abbrev main_cst_60 : Ref sig .tc := ⟨.hbm, 258, rfl⟩
abbrev main_v187 : Ref sig .tc := ⟨.hbm, 259, rfl⟩
abbrev main_v188 : Ref sig .tc := ⟨.hbm, 260, rfl⟩
abbrev main_cst_61 : Ref sig .tc := ⟨.hbm, 261, rfl⟩
abbrev main_v189 : Ref sig .tc := ⟨.hbm, 262, rfl⟩
abbrev main_cst_62 : Ref sig .tc := ⟨.hbm, 263, rfl⟩
abbrev main_call7_v0 : Ref sig .tc := ⟨.hbm, 264, rfl⟩
abbrev main_v190 : Ref sig .tc := ⟨.hbm, 265, rfl⟩
abbrev main_v191 : Ref sig .tc := ⟨.hbm, 266, rfl⟩
abbrev main_c_63 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_cst_64 : Ref sig .tc := ⟨.hbm, 271, rfl⟩
abbrev main_v195 : Ref sig .tc := ⟨.hbm, 272, rfl⟩
abbrev main_cst_65 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_cst_66 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_cst_67 : Ref sig .tc := ⟨.hbm, 289, rfl⟩
abbrev main_v210 : Ref sig .tc := ⟨.hbm, 290, rfl⟩
abbrev main_cst_68 : Ref sig .tc := ⟨.hbm, 291, rfl⟩
abbrev main_v211 : Ref sig .tc := ⟨.hbm, 292, rfl⟩
abbrev main_v212 : Ref sig .tc := ⟨.hbm, 293, rfl⟩
abbrev main_cst_69 : Ref sig .tc := ⟨.hbm, 294, rfl⟩
abbrev main_v213 : Ref sig .tc := ⟨.hbm, 295, rfl⟩
abbrev main_cst_70 : Ref sig .tc := ⟨.hbm, 296, rfl⟩
abbrev main_call8_v0 : Ref sig .tc := ⟨.hbm, 297, rfl⟩
abbrev main_v214 : Ref sig .tc := ⟨.hbm, 298, rfl⟩
abbrev main_v215 : Ref sig .tc := ⟨.hbm, 299, rfl⟩
abbrev main_c_71 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_cst_72 : Ref sig .tc := ⟨.hbm, 304, rfl⟩
abbrev main_v219 : Ref sig .tc := ⟨.hbm, 305, rfl⟩
abbrev main_cst_73 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_cst_74 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_cst_75 : Ref sig .tc := ⟨.hbm, 322, rfl⟩
abbrev main_v234 : Ref sig .tc := ⟨.hbm, 323, rfl⟩
abbrev main_cst_76 : Ref sig .tc := ⟨.hbm, 324, rfl⟩
abbrev main_v235 : Ref sig .tc := ⟨.hbm, 325, rfl⟩
abbrev main_v236 : Ref sig .tc := ⟨.hbm, 326, rfl⟩
abbrev main_cst_77 : Ref sig .tc := ⟨.hbm, 327, rfl⟩
abbrev main_v237 : Ref sig .tc := ⟨.hbm, 328, rfl⟩
abbrev main_cst_78 : Ref sig .tc := ⟨.hbm, 329, rfl⟩
abbrev main_call9_v0 : Ref sig .tc := ⟨.hbm, 330, rfl⟩
abbrev main_v238 : Ref sig .tc := ⟨.hbm, 331, rfl⟩
abbrev main_v239 : Ref sig .tc := ⟨.hbm, 332, rfl⟩
abbrev main_c_79 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_cst_80 : Ref sig .tc := ⟨.hbm, 337, rfl⟩
abbrev main_v243 : Ref sig .tc := ⟨.hbm, 338, rfl⟩
abbrev main_cst_81 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_v247 : Ref sig .tc := ⟨.hbm, 343, rfl⟩
abbrev main_cst_82 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_cst_83 : Ref sig .tc := ⟨.hbm, 355, rfl⟩
abbrev main_v258 : Ref sig .tc := ⟨.hbm, 356, rfl⟩
abbrev main_cst_84 : Ref sig .tc := ⟨.hbm, 357, rfl⟩
abbrev main_v259 : Ref sig .tc := ⟨.hbm, 358, rfl⟩
abbrev main_v260 : Ref sig .tc := ⟨.hbm, 359, rfl⟩
abbrev main_cst_85 : Ref sig .tc := ⟨.hbm, 360, rfl⟩
abbrev main_v261 : Ref sig .tc := ⟨.hbm, 361, rfl⟩
abbrev main_cst_86 : Ref sig .tc := ⟨.hbm, 362, rfl⟩
abbrev main_call10_v0 : Ref sig .tc := ⟨.hbm, 363, rfl⟩
abbrev main_v262 : Ref sig .tc := ⟨.hbm, 364, rfl⟩
abbrev main_v263 : Ref sig .tc := ⟨.hbm, 365, rfl⟩
abbrev main_c_87 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_cst_88 : Ref sig .tc := ⟨.hbm, 370, rfl⟩
abbrev main_v267 : Ref sig .tc := ⟨.hbm, 371, rfl⟩
abbrev main_cst_89 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_cst_90 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_v276 : Ref sig .tc := ⟨.hbm, 382, rfl⟩
abbrev main_v277 : Ref sig .tc := ⟨.hbm, 383, rfl⟩
abbrev main_v278 : Ref sig .tc := ⟨.hbm, 384, rfl⟩
abbrev main_v279 : Ref sig .tc := ⟨.hbm, 385, rfl⟩
abbrev main_v280 : Ref sig .tc := ⟨.hbm, 386, rfl⟩
abbrev main_v281 : Ref sig .tc := ⟨.hbm, 387, rfl⟩
abbrev main_cst_91 : Ref sig .tc := ⟨.hbm, 388, rfl⟩
abbrev main_v282 : Ref sig .tc := ⟨.hbm, 389, rfl⟩
abbrev main_cst_92 : Ref sig .tc := ⟨.hbm, 390, rfl⟩
abbrev main_v283 : Ref sig .tc := ⟨.hbm, 391, rfl⟩
abbrev main_v284 : Ref sig .tc := ⟨.hbm, 392, rfl⟩
abbrev main_cst_93 : Ref sig .tc := ⟨.hbm, 393, rfl⟩
abbrev main_v285 : Ref sig .tc := ⟨.hbm, 394, rfl⟩
abbrev main_cst_94 : Ref sig .tc := ⟨.hbm, 395, rfl⟩
abbrev main_call11_v0 : Ref sig .tc := ⟨.hbm, 396, rfl⟩
abbrev main_v286 : Ref sig .tc := ⟨.hbm, 397, rfl⟩
abbrev main_v287 : Ref sig .tc := ⟨.hbm, 398, rfl⟩
abbrev main_c_95 : Ref sig .tc := ⟨.hbm, 399, rfl⟩
abbrev main_v288 : Ref sig .tc := ⟨.hbm, 400, rfl⟩
abbrev main_v289 : Ref sig .tc := ⟨.hbm, 401, rfl⟩
abbrev main_v290 : Ref sig .tc := ⟨.hbm, 402, rfl⟩
abbrev main_cst_96 : Ref sig .tc := ⟨.hbm, 403, rfl⟩
abbrev main_v291 : Ref sig .tc := ⟨.hbm, 404, rfl⟩
abbrev main_cst_97 : Ref sig .tc := ⟨.hbm, 405, rfl⟩
abbrev main_v292 : Ref sig .tc := ⟨.hbm, 406, rfl⟩
abbrev main_v293 : Ref sig .tc := ⟨.hbm, 407, rfl⟩
abbrev main_v294 : Ref sig .tc := ⟨.hbm, 408, rfl⟩
abbrev main_v295 : Ref sig .tc := ⟨.hbm, 409, rfl⟩
abbrev main_cst_98 : Ref sig .tc := ⟨.hbm, 410, rfl⟩
abbrev main_v296 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_v300 : Ref sig .tc := ⟨.hbm, 415, rfl⟩
abbrev main_v301 : Ref sig .tc := ⟨.hbm, 416, rfl⟩
abbrev main_v302 : Ref sig .tc := ⟨.hbm, 417, rfl⟩
abbrev main_v303 : Ref sig .tc := ⟨.hbm, 418, rfl⟩
abbrev main_v304 : Ref sig .tc := ⟨.hbm, 419, rfl⟩
abbrev main_v305 : Ref sig .tc := ⟨.hbm, 420, rfl⟩
abbrev main_cst_99 : Ref sig .tc := ⟨.hbm, 421, rfl⟩
abbrev main_v306 : Ref sig .tc := ⟨.hbm, 422, rfl⟩
abbrev main_cst_100 : Ref sig .tc := ⟨.hbm, 423, rfl⟩
abbrev main_v307 : Ref sig .tc := ⟨.hbm, 424, rfl⟩
abbrev main_v308 : Ref sig .tc := ⟨.hbm, 425, rfl⟩
abbrev main_cst_101 : Ref sig .tc := ⟨.hbm, 426, rfl⟩
abbrev main_v309 : Ref sig .tc := ⟨.hbm, 427, rfl⟩
abbrev main_cst_102 : Ref sig .tc := ⟨.hbm, 428, rfl⟩
abbrev main_call12_v0 : Ref sig .tc := ⟨.hbm, 429, rfl⟩
abbrev main_v310 : Ref sig .tc := ⟨.hbm, 430, rfl⟩
abbrev main_v311 : Ref sig .tc := ⟨.hbm, 431, rfl⟩
abbrev main_c_103 : Ref sig .tc := ⟨.hbm, 432, rfl⟩
abbrev main_v312 : Ref sig .tc := ⟨.hbm, 433, rfl⟩
abbrev main_v313 : Ref sig .tc := ⟨.hbm, 434, rfl⟩
abbrev main_v314 : Ref sig .tc := ⟨.hbm, 435, rfl⟩
abbrev main_cst_104 : Ref sig .tc := ⟨.hbm, 436, rfl⟩
abbrev main_v315 : Ref sig .tc := ⟨.hbm, 437, rfl⟩
abbrev main_cst_105 : Ref sig .tc := ⟨.hbm, 438, rfl⟩
abbrev main_v316 : Ref sig .tc := ⟨.hbm, 439, rfl⟩
abbrev main_v317 : Ref sig .tc := ⟨.hbm, 440, rfl⟩
abbrev main_v318 : Ref sig .tc := ⟨.hbm, 441, rfl⟩
abbrev main_v319 : Ref sig .tc := ⟨.hbm, 442, rfl⟩
abbrev main_cst_106 : Ref sig .tc := ⟨.hbm, 443, rfl⟩
abbrev main_v320 : Ref sig .tc := ⟨.hbm, 444, rfl⟩
abbrev main_v321 : Ref sig .tc := ⟨.hbm, 445, rfl⟩
abbrev main_v322 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩
abbrev main_v327 : Ref sig .tc := ⟨.hbm, 451, rfl⟩
abbrev main_v328 : Ref sig .tc := ⟨.hbm, 452, rfl⟩
abbrev main_v329 : Ref sig .tc := ⟨.hbm, 453, rfl⟩
abbrev main_cst_107 : Ref sig .tc := ⟨.hbm, 454, rfl⟩
abbrev main_v330 : Ref sig .tc := ⟨.hbm, 455, rfl⟩
abbrev main_cst_108 : Ref sig .tc := ⟨.hbm, 456, rfl⟩
abbrev main_v331 : Ref sig .tc := ⟨.hbm, 457, rfl⟩
abbrev main_v332 : Ref sig .tc := ⟨.hbm, 458, rfl⟩
abbrev main_cst_109 : Ref sig .tc := ⟨.hbm, 459, rfl⟩
abbrev main_v333 : Ref sig .tc := ⟨.hbm, 460, rfl⟩
abbrev main_cst_110 : Ref sig .tc := ⟨.hbm, 461, rfl⟩
abbrev main_call13_v0 : Ref sig .tc := ⟨.hbm, 462, rfl⟩
abbrev main_v334 : Ref sig .tc := ⟨.hbm, 463, rfl⟩
abbrev main_v335 : Ref sig .tc := ⟨.hbm, 464, rfl⟩
abbrev main_c_111 : Ref sig .tc := ⟨.hbm, 465, rfl⟩
abbrev main_v336 : Ref sig .tc := ⟨.hbm, 466, rfl⟩
abbrev main_v337 : Ref sig .tc := ⟨.hbm, 467, rfl⟩
abbrev main_v338 : Ref sig .tc := ⟨.hbm, 468, rfl⟩
abbrev main_cst_112 : Ref sig .tc := ⟨.hbm, 469, rfl⟩
abbrev main_v339 : Ref sig .tc := ⟨.hbm, 470, rfl⟩
abbrev main_cst_113 : Ref sig .tc := ⟨.hbm, 471, rfl⟩
abbrev main_v340 : Ref sig .tc := ⟨.hbm, 472, rfl⟩
abbrev main_v341 : Ref sig .tc := ⟨.hbm, 473, rfl⟩
abbrev main_v342 : Ref sig .tc := ⟨.hbm, 474, rfl⟩
abbrev main_v343 : Ref sig .tc := ⟨.hbm, 475, rfl⟩
abbrev main_cst_114 : Ref sig .tc := ⟨.hbm, 476, rfl⟩
abbrev main_v344 : Ref sig .tc := ⟨.hbm, 477, rfl⟩
abbrev main_v345 : Ref sig .tc := ⟨.hbm, 478, rfl⟩
abbrev main_v346 : Ref sig .tc := ⟨.hbm, 479, rfl⟩
abbrev main_v347 : Ref sig .tc := ⟨.hbm, 480, rfl⟩
abbrev main_v348 : Ref sig .tc := ⟨.hbm, 481, rfl⟩
abbrev main_v349 : Ref sig .tc := ⟨.hbm, 482, rfl⟩
abbrev main_v350 : Ref sig .tc := ⟨.hbm, 483, rfl⟩
abbrev main_v351 : Ref sig .tc := ⟨.hbm, 484, rfl⟩
abbrev main_v352 : Ref sig .tc := ⟨.hbm, 485, rfl⟩
abbrev main_v353 : Ref sig .tc := ⟨.hbm, 486, rfl⟩
abbrev main_cst_115 : Ref sig .tc := ⟨.hbm, 487, rfl⟩
abbrev main_v354 : Ref sig .tc := ⟨.hbm, 488, rfl⟩
abbrev main_cst_116 : Ref sig .tc := ⟨.hbm, 489, rfl⟩
abbrev main_v355 : Ref sig .tc := ⟨.hbm, 490, rfl⟩
abbrev main_v356 : Ref sig .tc := ⟨.hbm, 491, rfl⟩
abbrev main_cst_117 : Ref sig .tc := ⟨.hbm, 492, rfl⟩
abbrev main_v357 : Ref sig .tc := ⟨.hbm, 493, rfl⟩
abbrev main_cst_118 : Ref sig .tc := ⟨.hbm, 494, rfl⟩
abbrev main_call14_v0 : Ref sig .tc := ⟨.hbm, 495, rfl⟩
abbrev main_v358 : Ref sig .tc := ⟨.hbm, 496, rfl⟩
abbrev main_v359 : Ref sig .tc := ⟨.hbm, 497, rfl⟩
abbrev main_c_119 : Ref sig .tc := ⟨.hbm, 498, rfl⟩
abbrev main_v360 : Ref sig .tc := ⟨.hbm, 499, rfl⟩
abbrev main_v361 : Ref sig .tc := ⟨.hbm, 500, rfl⟩
abbrev main_v362 : Ref sig .tc := ⟨.hbm, 501, rfl⟩
abbrev main_cst_120 : Ref sig .tc := ⟨.hbm, 502, rfl⟩
abbrev main_v363 : Ref sig .tc := ⟨.hbm, 503, rfl⟩
abbrev main_cst_121 : Ref sig .tc := ⟨.hbm, 504, rfl⟩
abbrev main_v364 : Ref sig .tc := ⟨.hbm, 505, rfl⟩
abbrev main_v365 : Ref sig .tc := ⟨.hbm, 506, rfl⟩
abbrev main_v366 : Ref sig .tc := ⟨.hbm, 507, rfl⟩
abbrev main_v367 : Ref sig .tc := ⟨.hbm, 508, rfl⟩
abbrev main_cst_122 : Ref sig .tc := ⟨.hbm, 509, rfl⟩
abbrev main_v368 : Ref sig .tc := ⟨.hbm, 510, rfl⟩
abbrev main_v369 : Ref sig .tc := ⟨.hbm, 511, rfl⟩
abbrev main_v370 : Ref sig .tc := ⟨.hbm, 512, rfl⟩
abbrev main_v371 : Ref sig .tc := ⟨.hbm, 513, rfl⟩
abbrev main_v372 : Ref sig .tc := ⟨.hbm, 514, rfl⟩
abbrev main_v373 : Ref sig .tc := ⟨.hbm, 515, rfl⟩
abbrev main_v374 : Ref sig .tc := ⟨.hbm, 516, rfl⟩
abbrev main_v375 : Ref sig .tc := ⟨.hbm, 517, rfl⟩
abbrev main_v376 : Ref sig .tc := ⟨.hbm, 518, rfl⟩
abbrev main_v377 : Ref sig .tc := ⟨.hbm, 519, rfl⟩
abbrev main_cst_123 : Ref sig .tc := ⟨.hbm, 520, rfl⟩
abbrev main_v378 : Ref sig .tc := ⟨.hbm, 521, rfl⟩
abbrev main_cst_124 : Ref sig .tc := ⟨.hbm, 522, rfl⟩
abbrev main_v379 : Ref sig .tc := ⟨.hbm, 523, rfl⟩
abbrev main_v380 : Ref sig .tc := ⟨.hbm, 524, rfl⟩
abbrev main_cst_125 : Ref sig .tc := ⟨.hbm, 525, rfl⟩
abbrev main_v381 : Ref sig .tc := ⟨.hbm, 526, rfl⟩
abbrev main_cst_126 : Ref sig .tc := ⟨.hbm, 527, rfl⟩
abbrev main_call15_v0 : Ref sig .tc := ⟨.hbm, 528, rfl⟩
abbrev main_v382 : Ref sig .tc := ⟨.hbm, 529, rfl⟩
abbrev main_v383 : Ref sig .tc := ⟨.hbm, 530, rfl⟩
abbrev main_v384 : Ref sig .tc := ⟨.hbm, 531, rfl⟩
abbrev main_v385 : Ref sig .tc := ⟨.hbm, 532, rfl⟩
abbrev main_cst_127 : Ref sig .tc := ⟨.hbm, 533, rfl⟩
abbrev main_v386 : Ref sig .tc := ⟨.hbm, 534, rfl⟩
abbrev main_cst_128 : Ref sig .tc := ⟨.hbm, 535, rfl⟩
abbrev main_v387 : Ref sig .tc := ⟨.hbm, 536, rfl⟩
abbrev main_cst_129 : Ref sig .tc := ⟨.hbm, 537, rfl⟩
abbrev main_v388 : Ref sig .tc := ⟨.hbm, 538, rfl⟩
abbrev main_v389 : Ref sig .tc := ⟨.hbm, 539, rfl⟩
abbrev main_v390 : Ref sig .tc := ⟨.hbm, 540, rfl⟩
abbrev main_cst_130 : Ref sig .tc := ⟨.hbm, 541, rfl⟩
abbrev main_v391 : Ref sig .tc := ⟨.hbm, 542, rfl⟩
abbrev main_cst_131 : Ref sig .tc := ⟨.hbm, 543, rfl⟩
abbrev main_v392 : Ref sig .tc := ⟨.hbm, 544, rfl⟩
abbrev main_v393 : Ref sig .tc := ⟨.hbm, 545, rfl⟩
abbrev main_v394 : Ref sig .tc := ⟨.hbm, 546, rfl⟩
abbrev main_v395 : Ref sig .tc := ⟨.hbm, 547, rfl⟩
abbrev main_cst_132 : Ref sig .tc := ⟨.hbm, 548, rfl⟩
abbrev main_v396 : Ref sig .tc := ⟨.hbm, 549, rfl⟩
abbrev main_cst_133 : Ref sig .tc := ⟨.hbm, 550, rfl⟩
abbrev main_v397 : Ref sig .tc := ⟨.hbm, 551, rfl⟩
abbrev main_v398 : Ref sig .tc := ⟨.hbm, 552, rfl⟩
abbrev main_v399 : Ref sig .tc := ⟨.hbm, 553, rfl⟩
abbrev main_v400 : Ref sig .tc := ⟨.hbm, 554, rfl⟩
abbrev main_cst_134 : Ref sig .tc := ⟨.hbm, 555, rfl⟩
abbrev main_v401 : Ref sig .tc := ⟨.hbm, 556, rfl⟩
abbrev main_cst_135 : Ref sig .tc := ⟨.hbm, 557, rfl⟩
abbrev main_v402 : Ref sig .tc := ⟨.hbm, 558, rfl⟩
abbrev main_v403 : Ref sig .tc := ⟨.hbm, 559, rfl⟩
abbrev main_v404 : Ref sig .tc := ⟨.hbm, 560, rfl⟩
abbrev main_v405 : Ref sig .tc := ⟨.hbm, 561, rfl⟩
abbrev main_cst_136 : Ref sig .tc := ⟨.hbm, 562, rfl⟩
abbrev main_v406 : Ref sig .tc := ⟨.hbm, 563, rfl⟩
abbrev main_cst_137 : Ref sig .tc := ⟨.hbm, 564, rfl⟩
abbrev main_v407 : Ref sig .tc := ⟨.hbm, 565, rfl⟩
abbrev main_v408 : Ref sig .tc := ⟨.hbm, 566, rfl⟩
abbrev main_v409 : Ref sig .tc := ⟨.hbm, 567, rfl⟩
abbrev main_v410 : Ref sig .tc := ⟨.hbm, 568, rfl⟩
abbrev main_cst_138 : Ref sig .tc := ⟨.hbm, 569, rfl⟩
abbrev main_v411 : Ref sig .tc := ⟨.hbm, 570, rfl⟩
abbrev main_cst_139 : Ref sig .tc := ⟨.hbm, 571, rfl⟩
abbrev main_v412 : Ref sig .tc := ⟨.hbm, 572, rfl⟩
abbrev main_v413 : Ref sig .tc := ⟨.hbm, 573, rfl⟩
abbrev main_v414 : Ref sig .tc := ⟨.hbm, 574, rfl⟩
abbrev main_v415 : Ref sig .tc := ⟨.hbm, 575, rfl⟩
abbrev main_cst_140 : Ref sig .tc := ⟨.hbm, 576, rfl⟩
abbrev main_v416 : Ref sig .tc := ⟨.hbm, 577, rfl⟩
abbrev main_cst_141 : Ref sig .tc := ⟨.hbm, 578, rfl⟩
abbrev main_v417 : Ref sig .tc := ⟨.hbm, 579, rfl⟩
abbrev main_v418 : Ref sig .tc := ⟨.hbm, 580, rfl⟩
abbrev main_v419 : Ref sig .tc := ⟨.hbm, 581, rfl⟩
abbrev main_v420 : Ref sig .tc := ⟨.hbm, 582, rfl⟩
abbrev main_cst_142 : Ref sig .tc := ⟨.hbm, 583, rfl⟩
abbrev main_v421 : Ref sig .tc := ⟨.hbm, 584, rfl⟩
abbrev main_cst_143 : Ref sig .tc := ⟨.hbm, 585, rfl⟩
abbrev main_v422 : Ref sig .tc := ⟨.hbm, 586, rfl⟩
abbrev main_v423 : Ref sig .tc := ⟨.hbm, 587, rfl⟩
abbrev main_v424 : Ref sig .tc := ⟨.hbm, 588, rfl⟩
abbrev main_v425 : Ref sig .tc := ⟨.hbm, 589, rfl⟩
abbrev main_cst_144 : Ref sig .tc := ⟨.hbm, 590, rfl⟩
abbrev main_v426 : Ref sig .tc := ⟨.hbm, 591, rfl⟩
abbrev main_cst_145 : Ref sig .tc := ⟨.hbm, 592, rfl⟩
abbrev main_v427 : Ref sig .tc := ⟨.hbm, 593, rfl⟩
abbrev main_v428 : Ref sig .tc := ⟨.hbm, 594, rfl⟩
abbrev main_v429 : Ref sig .tc := ⟨.hbm, 595, rfl⟩
abbrev main_v430 : Ref sig .tc := ⟨.hbm, 596, rfl⟩
abbrev main_cst_146 : Ref sig .tc := ⟨.hbm, 597, rfl⟩
abbrev main_v431 : Ref sig .tc := ⟨.hbm, 598, rfl⟩
abbrev main_cst_147 : Ref sig .tc := ⟨.hbm, 599, rfl⟩
abbrev main_v432 : Ref sig .tc := ⟨.hbm, 600, rfl⟩
abbrev main_v433 : Ref sig .tc := ⟨.hbm, 601, rfl⟩
abbrev main_v434 : Ref sig .tc := ⟨.hbm, 602, rfl⟩
abbrev main_v435 : Ref sig .tc := ⟨.hbm, 603, rfl⟩
abbrev main_cst_148 : Ref sig .tc := ⟨.hbm, 604, rfl⟩
abbrev main_v436 : Ref sig .tc := ⟨.hbm, 605, rfl⟩
abbrev main_cst_149 : Ref sig .tc := ⟨.hbm, 606, rfl⟩
abbrev main_v437 : Ref sig .tc := ⟨.hbm, 607, rfl⟩
abbrev main_v438 : Ref sig .tc := ⟨.hbm, 608, rfl⟩
abbrev main_v439 : Ref sig .tc := ⟨.hbm, 609, rfl⟩
abbrev main_v440 : Ref sig .tc := ⟨.hbm, 610, rfl⟩
abbrev main_cst_150 : Ref sig .tc := ⟨.hbm, 611, rfl⟩
abbrev main_v441 : Ref sig .tc := ⟨.hbm, 612, rfl⟩
abbrev main_cst_151 : Ref sig .tc := ⟨.hbm, 613, rfl⟩
abbrev main_v442 : Ref sig .tc := ⟨.hbm, 614, rfl⟩
abbrev main_v443 : Ref sig .tc := ⟨.hbm, 615, rfl⟩
abbrev main_v444 : Ref sig .tc := ⟨.hbm, 616, rfl⟩
abbrev main_v445 : Ref sig .tc := ⟨.hbm, 617, rfl⟩
abbrev main_cst_152 : Ref sig .tc := ⟨.hbm, 618, rfl⟩
abbrev main_v446 : Ref sig .tc := ⟨.hbm, 619, rfl⟩
abbrev main_cst_153 : Ref sig .tc := ⟨.hbm, 620, rfl⟩
abbrev main_v447 : Ref sig .tc := ⟨.hbm, 621, rfl⟩
abbrev main_v448 : Ref sig .tc := ⟨.hbm, 622, rfl⟩
abbrev main_v449 : Ref sig .tc := ⟨.hbm, 623, rfl⟩
abbrev main_v450 : Ref sig .tc := ⟨.hbm, 624, rfl⟩
abbrev main_cst_154 : Ref sig .tc := ⟨.hbm, 625, rfl⟩
abbrev main_v451 : Ref sig .tc := ⟨.hbm, 626, rfl⟩
abbrev main_cst_155 : Ref sig .tc := ⟨.hbm, 627, rfl⟩
abbrev main_v452 : Ref sig .tc := ⟨.hbm, 628, rfl⟩
abbrev main_v453 : Ref sig .tc := ⟨.hbm, 629, rfl⟩
abbrev main_v454 : Ref sig .tc := ⟨.hbm, 630, rfl⟩
abbrev main_v455 : Ref sig .tc := ⟨.hbm, 631, rfl⟩
abbrev main_cst_156 : Ref sig .tc := ⟨.hbm, 632, rfl⟩
abbrev main_v456 : Ref sig .tc := ⟨.hbm, 633, rfl⟩
abbrev main_cst_157 : Ref sig .tc := ⟨.hbm, 634, rfl⟩
abbrev main_v457 : Ref sig .tc := ⟨.hbm, 635, rfl⟩
abbrev main_v458 : Ref sig .tc := ⟨.hbm, 636, rfl⟩
abbrev main_v459 : Ref sig .tc := ⟨.hbm, 637, rfl⟩
abbrev main_v460 : Ref sig .tc := ⟨.hbm, 638, rfl⟩
abbrev main_cst_158 : Ref sig .tc := ⟨.hbm, 639, rfl⟩
abbrev main_v461 : Ref sig .tc := ⟨.hbm, 640, rfl⟩
abbrev main_cst_159 : Ref sig .tc := ⟨.hbm, 641, rfl⟩
abbrev main_v462 : Ref sig .tc := ⟨.hbm, 642, rfl⟩
abbrev main_v463 : Ref sig .tc := ⟨.hbm, 643, rfl⟩
abbrev main_v464 : Ref sig .tc := ⟨.hbm, 644, rfl⟩
abbrev main_v465 : Ref sig .tc := ⟨.hbm, 645, rfl⟩
abbrev main_cst_160 : Ref sig .tc := ⟨.hbm, 646, rfl⟩
abbrev main_v466 : Ref sig .tc := ⟨.hbm, 647, rfl⟩
abbrev main_cst_161 : Ref sig .tc := ⟨.hbm, 648, rfl⟩
abbrev main_v467 : Ref sig .tc := ⟨.hbm, 649, rfl⟩
abbrev main_v468 : Ref sig .tc := ⟨.hbm, 650, rfl⟩
abbrev main_v469 : Ref sig .tc := ⟨.hbm, 651, rfl⟩
abbrev main_v470 : Ref sig .tc := ⟨.hbm, 652, rfl⟩
abbrev main_cst_162 : Ref sig .tc := ⟨.hbm, 653, rfl⟩
abbrev main_v471 : Ref sig .tc := ⟨.hbm, 654, rfl⟩
abbrev main_cst_163 : Ref sig .tc := ⟨.hbm, 655, rfl⟩
abbrev main_v472 : Ref sig .tc := ⟨.hbm, 656, rfl⟩
abbrev main_v473 : Ref sig .tc := ⟨.hbm, 657, rfl⟩
abbrev main_v474 : Ref sig .tc := ⟨.hbm, 658, rfl⟩
abbrev main_v475 : Ref sig .tc := ⟨.hbm, 659, rfl⟩
abbrev main_cst_164 : Ref sig .tc := ⟨.hbm, 660, rfl⟩
abbrev main_v476 : Ref sig .tc := ⟨.hbm, 661, rfl⟩
abbrev main_cst_165 : Ref sig .tc := ⟨.hbm, 662, rfl⟩
abbrev main_v477 : Ref sig .tc := ⟨.hbm, 663, rfl⟩
abbrev main_v478 : Ref sig .tc := ⟨.hbm, 664, rfl⟩
abbrev main_v479 : Ref sig .tc := ⟨.hbm, 665, rfl⟩
abbrev main_v480 : Ref sig .tc := ⟨.hbm, 666, rfl⟩
abbrev main_cst_166 : Ref sig .tc := ⟨.hbm, 667, rfl⟩
abbrev main_v481 : Ref sig .tc := ⟨.hbm, 668, rfl⟩
abbrev main_cst_167 : Ref sig .tc := ⟨.hbm, 669, rfl⟩
abbrev main_v482 : Ref sig .tc := ⟨.hbm, 670, rfl⟩
abbrev main_v483 : Ref sig .tc := ⟨.hbm, 671, rfl⟩
abbrev main_v484 : Ref sig .tc := ⟨.hbm, 672, rfl⟩
abbrev main_v485 : Ref sig .tc := ⟨.hbm, 673, rfl⟩
abbrev main_cst_168 : Ref sig .tc := ⟨.hbm, 674, rfl⟩
abbrev main_v486 : Ref sig .tc := ⟨.hbm, 675, rfl⟩
abbrev main_cst_169 : Ref sig .tc := ⟨.hbm, 676, rfl⟩
abbrev main_v487 : Ref sig .tc := ⟨.hbm, 677, rfl⟩
abbrev main_v488 : Ref sig .tc := ⟨.hbm, 678, rfl⟩
abbrev main_v489 : Ref sig .tc := ⟨.hbm, 679, rfl⟩
abbrev main_v490 : Ref sig .tc := ⟨.hbm, 680, rfl⟩
abbrev main_cst_170 : Ref sig .tc := ⟨.hbm, 681, rfl⟩
abbrev main_v491 : Ref sig .tc := ⟨.hbm, 682, rfl⟩
abbrev main_cst_171 : Ref sig .tc := ⟨.hbm, 683, rfl⟩
abbrev main_v492 : Ref sig .tc := ⟨.hbm, 684, rfl⟩
abbrev main_v493 : Ref sig .tc := ⟨.hbm, 685, rfl⟩
abbrev main_v494 : Ref sig .tc := ⟨.hbm, 686, rfl⟩
abbrev main_v495 : Ref sig .tc := ⟨.hbm, 687, rfl⟩
abbrev main_cst_172 : Ref sig .tc := ⟨.hbm, 688, rfl⟩
abbrev main_v496 : Ref sig .tc := ⟨.hbm, 689, rfl⟩
abbrev main_cst_173 : Ref sig .tc := ⟨.hbm, 690, rfl⟩
abbrev main_v497 : Ref sig .tc := ⟨.hbm, 691, rfl⟩
abbrev main_v498 : Ref sig .tc := ⟨.hbm, 692, rfl⟩
abbrev main_v499 : Ref sig .tc := ⟨.hbm, 693, rfl⟩
abbrev main_v500 : Ref sig .tc := ⟨.hbm, 694, rfl⟩
abbrev main_cst_174 : Ref sig .tc := ⟨.hbm, 695, rfl⟩
abbrev main_v501 : Ref sig .tc := ⟨.hbm, 696, rfl⟩
abbrev main_cst_175 : Ref sig .tc := ⟨.hbm, 697, rfl⟩
abbrev main_v502 : Ref sig .tc := ⟨.hbm, 698, rfl⟩
abbrev main_v503 : Ref sig .tc := ⟨.hbm, 699, rfl⟩
abbrev main_v504 : Ref sig .tc := ⟨.hbm, 700, rfl⟩
abbrev main_v505 : Ref sig .tc := ⟨.hbm, 701, rfl⟩
abbrev main_cst_176 : Ref sig .tc := ⟨.hbm, 702, rfl⟩
abbrev main_v506 : Ref sig .tc := ⟨.hbm, 703, rfl⟩
abbrev main_cst_177 : Ref sig .tc := ⟨.hbm, 704, rfl⟩
abbrev main_v507 : Ref sig .tc := ⟨.hbm, 705, rfl⟩
abbrev main_v508 : Ref sig .tc := ⟨.hbm, 706, rfl⟩
abbrev main_v509 : Ref sig .tc := ⟨.hbm, 707, rfl⟩
abbrev main_v510 : Ref sig .tc := ⟨.hbm, 708, rfl⟩
abbrev main_cst_178 : Ref sig .tc := ⟨.hbm, 709, rfl⟩
abbrev main_v511 : Ref sig .tc := ⟨.hbm, 710, rfl⟩
abbrev main_cst_179 : Ref sig .tc := ⟨.hbm, 711, rfl⟩
abbrev main_v512 : Ref sig .tc := ⟨.hbm, 712, rfl⟩
abbrev main_v513 : Ref sig .tc := ⟨.hbm, 713, rfl⟩
abbrev main_v514 : Ref sig .tc := ⟨.hbm, 714, rfl⟩
abbrev main_v515 : Ref sig .tc := ⟨.hbm, 715, rfl⟩
abbrev main_cst_180 : Ref sig .tc := ⟨.hbm, 716, rfl⟩
abbrev main_v516 : Ref sig .tc := ⟨.hbm, 717, rfl⟩
abbrev main_cst_181 : Ref sig .tc := ⟨.hbm, 718, rfl⟩
abbrev main_v517 : Ref sig .tc := ⟨.hbm, 719, rfl⟩
abbrev main_v518 : Ref sig .tc := ⟨.hbm, 720, rfl⟩
abbrev main_v519 : Ref sig .tc := ⟨.hbm, 721, rfl⟩
abbrev main_v520 : Ref sig .tc := ⟨.hbm, 722, rfl⟩
abbrev main_cst_182 : Ref sig .tc := ⟨.hbm, 723, rfl⟩
abbrev main_v521 : Ref sig .tc := ⟨.hbm, 724, rfl⟩
abbrev main_cst_183 : Ref sig .tc := ⟨.hbm, 725, rfl⟩
abbrev main_v522 : Ref sig .tc := ⟨.hbm, 726, rfl⟩
abbrev main_v523 : Ref sig .tc := ⟨.hbm, 727, rfl⟩
abbrev main_v524 : Ref sig .tc := ⟨.hbm, 728, rfl⟩
abbrev main_v525 : Ref sig .tc := ⟨.hbm, 729, rfl⟩
abbrev main_cst_184 : Ref sig .tc := ⟨.hbm, 730, rfl⟩
abbrev main_v526 : Ref sig .tc := ⟨.hbm, 731, rfl⟩
abbrev main_cst_185 : Ref sig .tc := ⟨.hbm, 732, rfl⟩
abbrev main_v527 : Ref sig .tc := ⟨.hbm, 733, rfl⟩
abbrev main_v528 : Ref sig .tc := ⟨.hbm, 734, rfl⟩
abbrev main_v529 : Ref sig .tc := ⟨.hbm, 735, rfl⟩
abbrev main_v530 : Ref sig .tc := ⟨.hbm, 736, rfl⟩
abbrev main_cst_186 : Ref sig .tc := ⟨.hbm, 737, rfl⟩
abbrev main_v531 : Ref sig .tc := ⟨.hbm, 738, rfl⟩
abbrev main_cst_187 : Ref sig .tc := ⟨.hbm, 739, rfl⟩
abbrev main_v532 : Ref sig .tc := ⟨.hbm, 740, rfl⟩
abbrev main_v533 : Ref sig .tc := ⟨.hbm, 741, rfl⟩
abbrev main_v534 : Ref sig .tc := ⟨.hbm, 742, rfl⟩
abbrev main_v535 : Ref sig .tc := ⟨.hbm, 743, rfl⟩
abbrev main_cst_188 : Ref sig .tc := ⟨.hbm, 744, rfl⟩
abbrev main_v536 : Ref sig .tc := ⟨.hbm, 745, rfl⟩
abbrev main_cst_189 : Ref sig .tc := ⟨.hbm, 746, rfl⟩
abbrev main_v537 : Ref sig .tc := ⟨.hbm, 747, rfl⟩
abbrev main_v538 : Ref sig .tc := ⟨.hbm, 748, rfl⟩
abbrev main_v539 : Ref sig .tc := ⟨.hbm, 749, rfl⟩
abbrev main_v540 : Ref sig .tc := ⟨.hbm, 750, rfl⟩
abbrev main_cst_190 : Ref sig .tc := ⟨.hbm, 751, rfl⟩
abbrev main_v541 : Ref sig .tc := ⟨.hbm, 752, rfl⟩
abbrev main_cst_191 : Ref sig .tc := ⟨.hbm, 753, rfl⟩
abbrev main_v542 : Ref sig .tc := ⟨.hbm, 754, rfl⟩
abbrev main_v543 : Ref sig .tc := ⟨.hbm, 755, rfl⟩
abbrev main_v544 : Ref sig .tc := ⟨.hbm, 756, rfl⟩
abbrev main_v545 : Ref sig .tc := ⟨.hbm, 757, rfl⟩
abbrev main_cst_192 : Ref sig .tc := ⟨.hbm, 758, rfl⟩
abbrev main_v546 : Ref sig .tc := ⟨.hbm, 759, rfl⟩
abbrev main_cst_193 : Ref sig .tc := ⟨.hbm, 760, rfl⟩
abbrev main_v547 : Ref sig .tc := ⟨.hbm, 761, rfl⟩
abbrev main_v548 : Ref sig .tc := ⟨.hbm, 762, rfl⟩
abbrev main_v549 : Ref sig .tc := ⟨.hbm, 763, rfl⟩
abbrev main_v550 : Ref sig .tc := ⟨.hbm, 764, rfl⟩
abbrev main_cst_194 : Ref sig .tc := ⟨.hbm, 765, rfl⟩
abbrev main_v551 : Ref sig .tc := ⟨.hbm, 766, rfl⟩
abbrev main_cst_195 : Ref sig .tc := ⟨.hbm, 767, rfl⟩
abbrev main_v552 : Ref sig .tc := ⟨.hbm, 768, rfl⟩
abbrev main_v553 : Ref sig .tc := ⟨.hbm, 769, rfl⟩
abbrev main_v554 : Ref sig .tc := ⟨.hbm, 770, rfl⟩
abbrev main_v555 : Ref sig .tc := ⟨.hbm, 771, rfl⟩
abbrev main_cst_196 : Ref sig .tc := ⟨.hbm, 772, rfl⟩
abbrev main_v556 : Ref sig .tc := ⟨.hbm, 773, rfl⟩
abbrev main_cst_197 : Ref sig .tc := ⟨.hbm, 774, rfl⟩
abbrev main_v557 : Ref sig .tc := ⟨.hbm, 775, rfl⟩
abbrev main_v558 : Ref sig .tc := ⟨.hbm, 776, rfl⟩
abbrev main_v559 : Ref sig .tc := ⟨.hbm, 777, rfl⟩
abbrev main_v560 : Ref sig .tc := ⟨.hbm, 778, rfl⟩
abbrev main_cst_198 : Ref sig .tc := ⟨.hbm, 779, rfl⟩
abbrev main_v561 : Ref sig .tc := ⟨.hbm, 780, rfl⟩
abbrev main_cst_199 : Ref sig .tc := ⟨.hbm, 781, rfl⟩
abbrev main_v562 : Ref sig .tc := ⟨.hbm, 782, rfl⟩
abbrev main_v563 : Ref sig .tc := ⟨.hbm, 783, rfl⟩
abbrev main_v564 : Ref sig .tc := ⟨.hbm, 784, rfl⟩
abbrev main_v565 : Ref sig .tc := ⟨.hbm, 785, rfl⟩
abbrev main_cst_200 : Ref sig .tc := ⟨.hbm, 786, rfl⟩
abbrev main_v566 : Ref sig .tc := ⟨.hbm, 787, rfl⟩
abbrev main_cst_201 : Ref sig .tc := ⟨.hbm, 788, rfl⟩
abbrev main_v567 : Ref sig .tc := ⟨.hbm, 789, rfl⟩
abbrev main_v568 : Ref sig .tc := ⟨.hbm, 790, rfl⟩
abbrev main_v569 : Ref sig .tc := ⟨.hbm, 791, rfl⟩
abbrev main_v570 : Ref sig .tc := ⟨.hbm, 792, rfl⟩
abbrev main_cst_202 : Ref sig .tc := ⟨.hbm, 793, rfl⟩
abbrev main_v571 : Ref sig .tc := ⟨.hbm, 794, rfl⟩
abbrev main_cst_203 : Ref sig .tc := ⟨.hbm, 795, rfl⟩
abbrev main_v572 : Ref sig .tc := ⟨.hbm, 796, rfl⟩
abbrev main_v573 : Ref sig .tc := ⟨.hbm, 797, rfl⟩
abbrev main_v574 : Ref sig .tc := ⟨.hbm, 798, rfl⟩
abbrev main_v575 : Ref sig .tc := ⟨.hbm, 799, rfl⟩
abbrev main_cst_204 : Ref sig .tc := ⟨.hbm, 800, rfl⟩
abbrev main_v576 : Ref sig .tc := ⟨.hbm, 801, rfl⟩
abbrev main_cst_205 : Ref sig .tc := ⟨.hbm, 802, rfl⟩
abbrev main_v577 : Ref sig .tc := ⟨.hbm, 803, rfl⟩
abbrev main_v578 : Ref sig .tc := ⟨.hbm, 804, rfl⟩
abbrev main_v579 : Ref sig .tc := ⟨.hbm, 805, rfl⟩
abbrev main_v580 : Ref sig .tc := ⟨.hbm, 806, rfl⟩
abbrev main_cst_206 : Ref sig .tc := ⟨.hbm, 807, rfl⟩
abbrev main_v581 : Ref sig .tc := ⟨.hbm, 808, rfl⟩
abbrev main_cst_207 : Ref sig .tc := ⟨.hbm, 809, rfl⟩
abbrev main_v582 : Ref sig .tc := ⟨.hbm, 810, rfl⟩
abbrev main_v583 : Ref sig .tc := ⟨.hbm, 811, rfl⟩
abbrev main_v584 : Ref sig .tc := ⟨.hbm, 812, rfl⟩
abbrev main_v585 : Ref sig .tc := ⟨.hbm, 813, rfl⟩
abbrev main_cst_208 : Ref sig .tc := ⟨.hbm, 814, rfl⟩
abbrev main_v586 : Ref sig .tc := ⟨.hbm, 815, rfl⟩
abbrev main_cst_209 : Ref sig .tc := ⟨.hbm, 816, rfl⟩
abbrev main_v587 : Ref sig .tc := ⟨.hbm, 817, rfl⟩
abbrev main_v588 : Ref sig .tc := ⟨.hbm, 818, rfl⟩
abbrev main_v589 : Ref sig .tc := ⟨.hbm, 819, rfl⟩
abbrev main_v590 : Ref sig .tc := ⟨.hbm, 820, rfl⟩
abbrev main_cst_210 : Ref sig .tc := ⟨.hbm, 821, rfl⟩
abbrev main_v591 : Ref sig .tc := ⟨.hbm, 822, rfl⟩
abbrev main_cst_211 : Ref sig .tc := ⟨.hbm, 823, rfl⟩
abbrev main_v592 : Ref sig .tc := ⟨.hbm, 824, rfl⟩
abbrev main_v593 : Ref sig .tc := ⟨.hbm, 825, rfl⟩
abbrev main_v594 : Ref sig .tc := ⟨.hbm, 826, rfl⟩
abbrev main_v595 : Ref sig .tc := ⟨.hbm, 827, rfl⟩
abbrev main_cst_212 : Ref sig .tc := ⟨.hbm, 828, rfl⟩
abbrev main_v596 : Ref sig .tc := ⟨.hbm, 829, rfl⟩
abbrev main_cst_213 : Ref sig .tc := ⟨.hbm, 830, rfl⟩
abbrev main_v597 : Ref sig .tc := ⟨.hbm, 831, rfl⟩
abbrev main_v598 : Ref sig .tc := ⟨.hbm, 832, rfl⟩
abbrev main_v599 : Ref sig .tc := ⟨.hbm, 833, rfl⟩
abbrev main_v600 : Ref sig .tc := ⟨.hbm, 834, rfl⟩
abbrev main_cst_214 : Ref sig .tc := ⟨.hbm, 835, rfl⟩
abbrev main_v601 : Ref sig .tc := ⟨.hbm, 836, rfl⟩
abbrev main_cst_215 : Ref sig .tc := ⟨.hbm, 837, rfl⟩
abbrev main_v602 : Ref sig .tc := ⟨.hbm, 838, rfl⟩
abbrev main_v603 : Ref sig .tc := ⟨.hbm, 839, rfl⟩
abbrev main_v604 : Ref sig .tc := ⟨.hbm, 840, rfl⟩
abbrev main_v605 : Ref sig .tc := ⟨.hbm, 841, rfl⟩
abbrev main_cst_216 : Ref sig .tc := ⟨.hbm, 842, rfl⟩
abbrev main_v606 : Ref sig .tc := ⟨.hbm, 843, rfl⟩
abbrev main_cst_217 : Ref sig .tc := ⟨.hbm, 844, rfl⟩
abbrev main_v607 : Ref sig .tc := ⟨.hbm, 845, rfl⟩
abbrev main_v608 : Ref sig .tc := ⟨.hbm, 846, rfl⟩
abbrev main_v609 : Ref sig .tc := ⟨.hbm, 847, rfl⟩
abbrev main_v610 : Ref sig .tc := ⟨.hbm, 848, rfl⟩
abbrev main_cst_218 : Ref sig .tc := ⟨.hbm, 849, rfl⟩
abbrev main_v611 : Ref sig .tc := ⟨.hbm, 850, rfl⟩
abbrev main_cst_219 : Ref sig .tc := ⟨.hbm, 851, rfl⟩
abbrev main_v612 : Ref sig .tc := ⟨.hbm, 852, rfl⟩
abbrev main_v613 : Ref sig .tc := ⟨.hbm, 853, rfl⟩
abbrev main_v614 : Ref sig .tc := ⟨.hbm, 854, rfl⟩
abbrev main_v615 : Ref sig .tc := ⟨.hbm, 855, rfl⟩
abbrev main_cst_220 : Ref sig .tc := ⟨.hbm, 856, rfl⟩
abbrev main_v616 : Ref sig .tc := ⟨.hbm, 857, rfl⟩
abbrev main_cst_221 : Ref sig .tc := ⟨.hbm, 858, rfl⟩
abbrev main_v617 : Ref sig .tc := ⟨.hbm, 859, rfl⟩
abbrev main_v618 : Ref sig .tc := ⟨.hbm, 860, rfl⟩
abbrev main_v619 : Ref sig .tc := ⟨.hbm, 861, rfl⟩
abbrev main_v620 : Ref sig .tc := ⟨.hbm, 862, rfl⟩
abbrev main_cst_222 : Ref sig .tc := ⟨.hbm, 863, rfl⟩
abbrev main_v621 : Ref sig .tc := ⟨.hbm, 864, rfl⟩
abbrev main_cst_223 : Ref sig .tc := ⟨.hbm, 865, rfl⟩
abbrev main_v622 : Ref sig .tc := ⟨.hbm, 866, rfl⟩
abbrev main_v623 : Ref sig .tc := ⟨.hbm, 867, rfl⟩
abbrev main_v624 : Ref sig .tc := ⟨.hbm, 868, rfl⟩
abbrev main_v625 : Ref sig .tc := ⟨.hbm, 869, rfl⟩
abbrev main_cst_224 : Ref sig .tc := ⟨.hbm, 870, rfl⟩
abbrev main_v626 : Ref sig .tc := ⟨.hbm, 871, rfl⟩
abbrev main_cst_225 : Ref sig .tc := ⟨.hbm, 872, rfl⟩
abbrev main_v627 : Ref sig .tc := ⟨.hbm, 873, rfl⟩
abbrev main_v628 : Ref sig .tc := ⟨.hbm, 874, rfl⟩
abbrev main_v629 : Ref sig .tc := ⟨.hbm, 875, rfl⟩
abbrev main_v630 : Ref sig .tc := ⟨.hbm, 876, rfl⟩
abbrev main_cst_226 : Ref sig .tc := ⟨.hbm, 877, rfl⟩
abbrev main_v631 : Ref sig .tc := ⟨.hbm, 878, rfl⟩
abbrev main_cst_227 : Ref sig .tc := ⟨.hbm, 879, rfl⟩
abbrev main_v632 : Ref sig .tc := ⟨.hbm, 880, rfl⟩
abbrev main_v633 : Ref sig .tc := ⟨.hbm, 881, rfl⟩
abbrev main_v634 : Ref sig .tc := ⟨.hbm, 882, rfl⟩
abbrev main_v635 : Ref sig .tc := ⟨.hbm, 883, rfl⟩
abbrev main_cst_228 : Ref sig .tc := ⟨.hbm, 884, rfl⟩
abbrev main_v636 : Ref sig .tc := ⟨.hbm, 885, rfl⟩
abbrev main_cst_229 : Ref sig .tc := ⟨.hbm, 886, rfl⟩
abbrev main_v637 : Ref sig .tc := ⟨.hbm, 887, rfl⟩
abbrev main_v638 : Ref sig .tc := ⟨.hbm, 888, rfl⟩
abbrev main_v639 : Ref sig .tc := ⟨.hbm, 889, rfl⟩
abbrev main_v640 : Ref sig .tc := ⟨.hbm, 890, rfl⟩
abbrev main_cst_230 : Ref sig .tc := ⟨.hbm, 891, rfl⟩
abbrev main_v641 : Ref sig .tc := ⟨.hbm, 892, rfl⟩
abbrev main_cst_231 : Ref sig .tc := ⟨.hbm, 893, rfl⟩
abbrev main_v642 : Ref sig .tc := ⟨.hbm, 894, rfl⟩
abbrev main_v643 : Ref sig .tc := ⟨.hbm, 895, rfl⟩
abbrev main_v644 : Ref sig .tc := ⟨.hbm, 896, rfl⟩
abbrev main_v645 : Ref sig .tc := ⟨.hbm, 897, rfl⟩
abbrev main_cst_232 : Ref sig .tc := ⟨.hbm, 898, rfl⟩
abbrev main_v646 : Ref sig .tc := ⟨.hbm, 899, rfl⟩
abbrev main_cst_233 : Ref sig .tc := ⟨.hbm, 900, rfl⟩
abbrev main_v647 : Ref sig .tc := ⟨.hbm, 901, rfl⟩
abbrev main_v648 : Ref sig .tc := ⟨.hbm, 902, rfl⟩
abbrev main_v649 : Ref sig .tc := ⟨.hbm, 903, rfl⟩
abbrev main_v650 : Ref sig .tc := ⟨.hbm, 904, rfl⟩
abbrev main_cst_234 : Ref sig .tc := ⟨.hbm, 905, rfl⟩
abbrev main_v651 : Ref sig .tc := ⟨.hbm, 906, rfl⟩
abbrev main_cst_235 : Ref sig .tc := ⟨.hbm, 907, rfl⟩
abbrev main_v652 : Ref sig .tc := ⟨.hbm, 908, rfl⟩
abbrev main_v653 : Ref sig .tc := ⟨.hbm, 909, rfl⟩
abbrev main_v654 : Ref sig .tc := ⟨.hbm, 910, rfl⟩
abbrev main_v655 : Ref sig .tc := ⟨.hbm, 911, rfl⟩
abbrev main_cst_236 : Ref sig .tc := ⟨.hbm, 912, rfl⟩
abbrev main_v656 : Ref sig .tc := ⟨.hbm, 913, rfl⟩
abbrev main_cst_237 : Ref sig .tc := ⟨.hbm, 914, rfl⟩
abbrev main_v657 : Ref sig .tc := ⟨.hbm, 915, rfl⟩
abbrev main_v658 : Ref sig .tc := ⟨.hbm, 916, rfl⟩
abbrev main_v659 : Ref sig .tc := ⟨.hbm, 917, rfl⟩
abbrev main_v660 : Ref sig .tc := ⟨.hbm, 918, rfl⟩
abbrev main_cst_238 : Ref sig .tc := ⟨.hbm, 919, rfl⟩
abbrev main_v661 : Ref sig .tc := ⟨.hbm, 920, rfl⟩
abbrev main_cst_239 : Ref sig .tc := ⟨.hbm, 921, rfl⟩
abbrev main_v662 : Ref sig .tc := ⟨.hbm, 922, rfl⟩
abbrev main_v663 : Ref sig .tc := ⟨.hbm, 923, rfl⟩
abbrev main_v664 : Ref sig .tc := ⟨.hbm, 924, rfl⟩
abbrev main_v665 : Ref sig .tc := ⟨.hbm, 925, rfl⟩
abbrev main_cst_240 : Ref sig .tc := ⟨.hbm, 926, rfl⟩
abbrev main_v666 : Ref sig .tc := ⟨.hbm, 927, rfl⟩
abbrev main_cst_241 : Ref sig .tc := ⟨.hbm, 928, rfl⟩
abbrev main_v667 : Ref sig .tc := ⟨.hbm, 929, rfl⟩
abbrev main_v668 : Ref sig .tc := ⟨.hbm, 930, rfl⟩
abbrev main_v669 : Ref sig .tc := ⟨.hbm, 931, rfl⟩
abbrev main_v670 : Ref sig .tc := ⟨.hbm, 932, rfl⟩
abbrev main_cst_242 : Ref sig .tc := ⟨.hbm, 933, rfl⟩
abbrev main_v671 : Ref sig .tc := ⟨.hbm, 934, rfl⟩
abbrev main_cst_243 : Ref sig .tc := ⟨.hbm, 935, rfl⟩
abbrev main_v672 : Ref sig .tc := ⟨.hbm, 936, rfl⟩
abbrev main_v673 : Ref sig .tc := ⟨.hbm, 937, rfl⟩
abbrev main_v674 : Ref sig .tc := ⟨.hbm, 938, rfl⟩
abbrev main_v675 : Ref sig .tc := ⟨.hbm, 939, rfl⟩
abbrev main_cst_244 : Ref sig .tc := ⟨.hbm, 940, rfl⟩
abbrev main_v676 : Ref sig .tc := ⟨.hbm, 941, rfl⟩
abbrev main_cst_245 : Ref sig .tc := ⟨.hbm, 942, rfl⟩
abbrev main_v677 : Ref sig .tc := ⟨.hbm, 943, rfl⟩
abbrev main_v678 : Ref sig .tc := ⟨.hbm, 944, rfl⟩
abbrev main_v679 : Ref sig .tc := ⟨.hbm, 945, rfl⟩
abbrev main_v680 : Ref sig .tc := ⟨.hbm, 946, rfl⟩
abbrev main_cst_246 : Ref sig .tc := ⟨.hbm, 947, rfl⟩
abbrev main_v681 : Ref sig .tc := ⟨.hbm, 948, rfl⟩
abbrev main_cst_247 : Ref sig .tc := ⟨.hbm, 949, rfl⟩
abbrev main_v682 : Ref sig .tc := ⟨.hbm, 950, rfl⟩
abbrev main_v683 : Ref sig .tc := ⟨.hbm, 951, rfl⟩
abbrev main_v684 : Ref sig .tc := ⟨.hbm, 952, rfl⟩
abbrev main_v685 : Ref sig .tc := ⟨.hbm, 953, rfl⟩
abbrev main_cst_248 : Ref sig .tc := ⟨.hbm, 954, rfl⟩
abbrev main_v686 : Ref sig .tc := ⟨.hbm, 955, rfl⟩
abbrev main_cst_249 : Ref sig .tc := ⟨.hbm, 956, rfl⟩
abbrev main_v687 : Ref sig .tc := ⟨.hbm, 957, rfl⟩
abbrev main_v688 : Ref sig .tc := ⟨.hbm, 958, rfl⟩
abbrev main_v689 : Ref sig .tc := ⟨.hbm, 959, rfl⟩
abbrev main_v690 : Ref sig .tc := ⟨.hbm, 960, rfl⟩
abbrev main_cst_250 : Ref sig .tc := ⟨.hbm, 961, rfl⟩
abbrev main_v691 : Ref sig .tc := ⟨.hbm, 962, rfl⟩
abbrev main_cst_251 : Ref sig .tc := ⟨.hbm, 963, rfl⟩
abbrev main_v692 : Ref sig .tc := ⟨.hbm, 964, rfl⟩
abbrev main_v693 : Ref sig .tc := ⟨.hbm, 965, rfl⟩
abbrev main_v694 : Ref sig .tc := ⟨.hbm, 966, rfl⟩
abbrev main_v695 : Ref sig .tc := ⟨.hbm, 967, rfl⟩
abbrev main_cst_252 : Ref sig .tc := ⟨.hbm, 968, rfl⟩
abbrev main_v696 : Ref sig .tc := ⟨.hbm, 969, rfl⟩
abbrev main_cst_253 : Ref sig .tc := ⟨.hbm, 970, rfl⟩
abbrev main_v697 : Ref sig .tc := ⟨.hbm, 971, rfl⟩
abbrev main_v698 : Ref sig .tc := ⟨.hbm, 972, rfl⟩
abbrev main_v699 : Ref sig .tc := ⟨.hbm, 973, rfl⟩
abbrev main_v700 : Ref sig .tc := ⟨.hbm, 974, rfl⟩
abbrev main_cst_254 : Ref sig .tc := ⟨.hbm, 975, rfl⟩
abbrev main_v701 : Ref sig .tc := ⟨.hbm, 976, rfl⟩
abbrev main_cst_255 : Ref sig .tc := ⟨.hbm, 977, rfl⟩
abbrev main_v702 : Ref sig .tc := ⟨.hbm, 978, rfl⟩
abbrev main_v703 : Ref sig .tc := ⟨.hbm, 979, rfl⟩
abbrev main_v704 : Ref sig .tc := ⟨.hbm, 980, rfl⟩
abbrev main_v705 : Ref sig .tc := ⟨.hbm, 981, rfl⟩
abbrev main_cst_256 : Ref sig .tc := ⟨.hbm, 982, rfl⟩
abbrev main_v706 : Ref sig .tc := ⟨.hbm, 983, rfl⟩
abbrev main_cst_257 : Ref sig .tc := ⟨.hbm, 984, rfl⟩
abbrev main_v707 : Ref sig .tc := ⟨.hbm, 985, rfl⟩
abbrev main_v708 : Ref sig .tc := ⟨.hbm, 986, rfl⟩
abbrev main_v709 : Ref sig .tc := ⟨.hbm, 987, rfl⟩
abbrev main_v710 : Ref sig .tc := ⟨.hbm, 988, rfl⟩
abbrev main_cst_258 : Ref sig .tc := ⟨.hbm, 989, rfl⟩
abbrev main_v711 : Ref sig .tc := ⟨.hbm, 990, rfl⟩
abbrev main_cst_259 : Ref sig .tc := ⟨.hbm, 991, rfl⟩
abbrev main_v712 : Ref sig .tc := ⟨.hbm, 992, rfl⟩
abbrev main_v713 : Ref sig .tc := ⟨.hbm, 993, rfl⟩
abbrev main_v714 : Ref sig .tc := ⟨.hbm, 994, rfl⟩
abbrev main_v715 : Ref sig .tc := ⟨.hbm, 995, rfl⟩
abbrev main_cst_260 : Ref sig .tc := ⟨.hbm, 996, rfl⟩
abbrev main_v716 : Ref sig .tc := ⟨.hbm, 997, rfl⟩
abbrev main_cst_261 : Ref sig .tc := ⟨.hbm, 998, rfl⟩
abbrev main_v717 : Ref sig .tc := ⟨.hbm, 999, rfl⟩
abbrev main_v718 : Ref sig .tc := ⟨.hbm, 1000, rfl⟩
abbrev main_v719 : Ref sig .tc := ⟨.hbm, 1001, rfl⟩
abbrev main_v720 : Ref sig .tc := ⟨.hbm, 1002, rfl⟩
abbrev main_cst_262 : Ref sig .tc := ⟨.hbm, 1003, rfl⟩
abbrev main_v721 : Ref sig .tc := ⟨.hbm, 1004, rfl⟩
abbrev main_cst_263 : Ref sig .tc := ⟨.hbm, 1005, rfl⟩
abbrev main_v722 : Ref sig .tc := ⟨.hbm, 1006, rfl⟩
abbrev main_v723 : Ref sig .tc := ⟨.hbm, 1007, rfl⟩
abbrev main_v724 : Ref sig .tc := ⟨.hbm, 1008, rfl⟩
abbrev main_v725 : Ref sig .tc := ⟨.hbm, 1009, rfl⟩
abbrev main_cst_264 : Ref sig .tc := ⟨.hbm, 1010, rfl⟩
abbrev main_v726 : Ref sig .tc := ⟨.hbm, 1011, rfl⟩
abbrev main_cst_265 : Ref sig .tc := ⟨.hbm, 1012, rfl⟩
abbrev main_v727 : Ref sig .tc := ⟨.hbm, 1013, rfl⟩
abbrev main_v728 : Ref sig .tc := ⟨.hbm, 1014, rfl⟩
abbrev main_v729 : Ref sig .tc := ⟨.hbm, 1015, rfl⟩
abbrev main_v730 : Ref sig .tc := ⟨.hbm, 1016, rfl⟩
abbrev main_cst_266 : Ref sig .tc := ⟨.hbm, 1017, rfl⟩
abbrev main_v731 : Ref sig .tc := ⟨.hbm, 1018, rfl⟩
abbrev main_cst_267 : Ref sig .tc := ⟨.hbm, 1019, rfl⟩
abbrev main_v732 : Ref sig .tc := ⟨.hbm, 1020, rfl⟩
abbrev main_v733 : Ref sig .tc := ⟨.hbm, 1021, rfl⟩
abbrev main_v734 : Ref sig .tc := ⟨.hbm, 1022, rfl⟩
abbrev main_v735 : Ref sig .tc := ⟨.hbm, 1023, rfl⟩
abbrev main_cst_268 : Ref sig .tc := ⟨.hbm, 1024, rfl⟩
abbrev main_v736 : Ref sig .tc := ⟨.hbm, 1025, rfl⟩
abbrev main_cst_269 : Ref sig .tc := ⟨.hbm, 1026, rfl⟩
abbrev main_v737 : Ref sig .tc := ⟨.hbm, 1027, rfl⟩
abbrev main_v738 : Ref sig .tc := ⟨.hbm, 1028, rfl⟩
abbrev main_v739 : Ref sig .tc := ⟨.hbm, 1029, rfl⟩
abbrev main_v740 : Ref sig .tc := ⟨.hbm, 1030, rfl⟩
abbrev main_cst_270 : Ref sig .tc := ⟨.hbm, 1031, rfl⟩
abbrev main_v741 : Ref sig .tc := ⟨.hbm, 1032, rfl⟩
abbrev main_cst_271 : Ref sig .tc := ⟨.hbm, 1033, rfl⟩
abbrev main_v742 : Ref sig .tc := ⟨.hbm, 1034, rfl⟩
abbrev main_v743 : Ref sig .tc := ⟨.hbm, 1035, rfl⟩
abbrev main_v744 : Ref sig .tc := ⟨.hbm, 1036, rfl⟩
abbrev main_v745 : Ref sig .tc := ⟨.hbm, 1037, rfl⟩
abbrev main_cst_272 : Ref sig .tc := ⟨.hbm, 1038, rfl⟩
abbrev main_v746 : Ref sig .tc := ⟨.hbm, 1039, rfl⟩
abbrev main_cst_273 : Ref sig .tc := ⟨.hbm, 1040, rfl⟩
abbrev main_v747 : Ref sig .tc := ⟨.hbm, 1041, rfl⟩
abbrev main_v748 : Ref sig .tc := ⟨.hbm, 1042, rfl⟩
abbrev main_v749 : Ref sig .tc := ⟨.hbm, 1043, rfl⟩
abbrev main_v750 : Ref sig .tc := ⟨.hbm, 1044, rfl⟩
abbrev main_cst_274 : Ref sig .tc := ⟨.hbm, 1045, rfl⟩
abbrev main_v751 : Ref sig .tc := ⟨.hbm, 1046, rfl⟩
abbrev main_cst_275 : Ref sig .tc := ⟨.hbm, 1047, rfl⟩
abbrev main_v752 : Ref sig .tc := ⟨.hbm, 1048, rfl⟩
abbrev main_v753 : Ref sig .tc := ⟨.hbm, 1049, rfl⟩
abbrev main_v754 : Ref sig .tc := ⟨.hbm, 1050, rfl⟩
abbrev main_v755 : Ref sig .tc := ⟨.hbm, 1051, rfl⟩
abbrev main_cst_276 : Ref sig .tc := ⟨.hbm, 1052, rfl⟩
abbrev main_v756 : Ref sig .tc := ⟨.hbm, 1053, rfl⟩
abbrev main_cst_277 : Ref sig .tc := ⟨.hbm, 1054, rfl⟩
abbrev main_v757 : Ref sig .tc := ⟨.hbm, 1055, rfl⟩
abbrev main_v758 : Ref sig .tc := ⟨.hbm, 1056, rfl⟩
abbrev main_v759 : Ref sig .tc := ⟨.hbm, 1057, rfl⟩
abbrev main_v760 : Ref sig .tc := ⟨.hbm, 1058, rfl⟩
abbrev main_cst_278 : Ref sig .tc := ⟨.hbm, 1059, rfl⟩
abbrev main_v761 : Ref sig .tc := ⟨.hbm, 1060, rfl⟩
abbrev main_cst_279 : Ref sig .tc := ⟨.hbm, 1061, rfl⟩
abbrev main_v762 : Ref sig .tc := ⟨.hbm, 1062, rfl⟩
abbrev main_v763 : Ref sig .tc := ⟨.hbm, 1063, rfl⟩
abbrev main_v764 : Ref sig .tc := ⟨.hbm, 1064, rfl⟩
abbrev main_v765 : Ref sig .tc := ⟨.hbm, 1065, rfl⟩
abbrev main_cst_280 : Ref sig .tc := ⟨.hbm, 1066, rfl⟩
abbrev main_v766 : Ref sig .tc := ⟨.hbm, 1067, rfl⟩
abbrev main_cst_281 : Ref sig .tc := ⟨.hbm, 1068, rfl⟩
abbrev main_v767 : Ref sig .tc := ⟨.hbm, 1069, rfl⟩
abbrev main_v768 : Ref sig .tc := ⟨.hbm, 1070, rfl⟩
abbrev main_v769 : Ref sig .tc := ⟨.hbm, 1071, rfl⟩
abbrev main_v770 : Ref sig .tc := ⟨.hbm, 1072, rfl⟩
abbrev main_cst_282 : Ref sig .tc := ⟨.hbm, 1073, rfl⟩
abbrev main_v771 : Ref sig .tc := ⟨.hbm, 1074, rfl⟩
abbrev main_cst_283 : Ref sig .tc := ⟨.hbm, 1075, rfl⟩
abbrev main_v772 : Ref sig .tc := ⟨.hbm, 1076, rfl⟩
abbrev main_v773 : Ref sig .tc := ⟨.hbm, 1077, rfl⟩
abbrev main_v774 : Ref sig .tc := ⟨.hbm, 1078, rfl⟩
abbrev main_v775 : Ref sig .tc := ⟨.hbm, 1079, rfl⟩
abbrev main_cst_284 : Ref sig .tc := ⟨.hbm, 1080, rfl⟩
abbrev main_v776 : Ref sig .tc := ⟨.hbm, 1081, rfl⟩
abbrev main_cst_285 : Ref sig .tc := ⟨.hbm, 1082, rfl⟩
abbrev main_v777 : Ref sig .tc := ⟨.hbm, 1083, rfl⟩
abbrev main_v778 : Ref sig .tc := ⟨.hbm, 1084, rfl⟩
abbrev main_v779 : Ref sig .tc := ⟨.hbm, 1085, rfl⟩
abbrev main_v780 : Ref sig .tc := ⟨.hbm, 1086, rfl⟩
abbrev main_cst_286 : Ref sig .tc := ⟨.hbm, 1087, rfl⟩
abbrev main_v781 : Ref sig .tc := ⟨.hbm, 1088, rfl⟩
abbrev main_cst_287 : Ref sig .tc := ⟨.hbm, 1089, rfl⟩
abbrev main_v782 : Ref sig .tc := ⟨.hbm, 1090, rfl⟩
abbrev main_v783 : Ref sig .tc := ⟨.hbm, 1091, rfl⟩
abbrev main_v784 : Ref sig .tc := ⟨.hbm, 1092, rfl⟩
abbrev main_v785 : Ref sig .tc := ⟨.hbm, 1093, rfl⟩
abbrev main_cst_288 : Ref sig .tc := ⟨.hbm, 1094, rfl⟩
abbrev main_v786 : Ref sig .tc := ⟨.hbm, 1095, rfl⟩
abbrev main_cst_289 : Ref sig .tc := ⟨.hbm, 1096, rfl⟩
abbrev main_v787 : Ref sig .tc := ⟨.hbm, 1097, rfl⟩
abbrev main_v788 : Ref sig .tc := ⟨.hbm, 1098, rfl⟩
abbrev main_v789 : Ref sig .tc := ⟨.hbm, 1099, rfl⟩
abbrev main_v790 : Ref sig .tc := ⟨.hbm, 1100, rfl⟩
abbrev main_cst_290 : Ref sig .tc := ⟨.hbm, 1101, rfl⟩
abbrev main_v791 : Ref sig .tc := ⟨.hbm, 1102, rfl⟩
abbrev main_cst_291 : Ref sig .tc := ⟨.hbm, 1103, rfl⟩
abbrev main_v792 : Ref sig .tc := ⟨.hbm, 1104, rfl⟩
abbrev main_v793 : Ref sig .tc := ⟨.hbm, 1105, rfl⟩
abbrev main_v794 : Ref sig .tc := ⟨.hbm, 1106, rfl⟩
abbrev main_v795 : Ref sig .tc := ⟨.hbm, 1107, rfl⟩
abbrev main_cst_292 : Ref sig .tc := ⟨.hbm, 1108, rfl⟩
abbrev main_v796 : Ref sig .tc := ⟨.hbm, 1109, rfl⟩
abbrev main_cst_293 : Ref sig .tc := ⟨.hbm, 1110, rfl⟩
abbrev main_v797 : Ref sig .tc := ⟨.hbm, 1111, rfl⟩
abbrev main_v798 : Ref sig .tc := ⟨.hbm, 1112, rfl⟩
abbrev main_v799 : Ref sig .tc := ⟨.hbm, 1113, rfl⟩
abbrev main_v800 : Ref sig .tc := ⟨.hbm, 1114, rfl⟩
abbrev main_cst_294 : Ref sig .tc := ⟨.hbm, 1115, rfl⟩
abbrev main_v801 : Ref sig .tc := ⟨.hbm, 1116, rfl⟩
abbrev main_cst_295 : Ref sig .tc := ⟨.hbm, 1117, rfl⟩
abbrev main_v802 : Ref sig .tc := ⟨.hbm, 1118, rfl⟩
abbrev main_v803 : Ref sig .tc := ⟨.hbm, 1119, rfl⟩
abbrev main_v804 : Ref sig .tc := ⟨.hbm, 1120, rfl⟩
abbrev main_v805 : Ref sig .tc := ⟨.hbm, 1121, rfl⟩
abbrev main_cst_296 : Ref sig .tc := ⟨.hbm, 1122, rfl⟩
abbrev main_v806 : Ref sig .tc := ⟨.hbm, 1123, rfl⟩
abbrev main_cst_297 : Ref sig .tc := ⟨.hbm, 1124, rfl⟩
abbrev main_v807 : Ref sig .tc := ⟨.hbm, 1125, rfl⟩
abbrev main_v808 : Ref sig .tc := ⟨.hbm, 1126, rfl⟩
abbrev main_v809 : Ref sig .tc := ⟨.hbm, 1127, rfl⟩
abbrev main_v810 : Ref sig .tc := ⟨.hbm, 1128, rfl⟩
abbrev main_cst_298 : Ref sig .tc := ⟨.hbm, 1129, rfl⟩
abbrev main_v811 : Ref sig .tc := ⟨.hbm, 1130, rfl⟩
abbrev main_cst_299 : Ref sig .tc := ⟨.hbm, 1131, rfl⟩
abbrev main_v812 : Ref sig .tc := ⟨.hbm, 1132, rfl⟩
abbrev main_v813 : Ref sig .tc := ⟨.hbm, 1133, rfl⟩
abbrev main_v814 : Ref sig .tc := ⟨.hbm, 1134, rfl⟩
abbrev main_v815 : Ref sig .tc := ⟨.hbm, 1135, rfl⟩
abbrev main_cst_300 : Ref sig .tc := ⟨.hbm, 1136, rfl⟩
abbrev main_v816 : Ref sig .tc := ⟨.hbm, 1137, rfl⟩
abbrev main_cst_301 : Ref sig .tc := ⟨.hbm, 1138, rfl⟩
abbrev main_v817 : Ref sig .tc := ⟨.hbm, 1139, rfl⟩
abbrev main_v818 : Ref sig .tc := ⟨.hbm, 1140, rfl⟩
abbrev main_v819 : Ref sig .tc := ⟨.hbm, 1141, rfl⟩
abbrev main_v820 : Ref sig .tc := ⟨.hbm, 1142, rfl⟩
abbrev main_cst_302 : Ref sig .tc := ⟨.hbm, 1143, rfl⟩
abbrev main_v821 : Ref sig .tc := ⟨.hbm, 1144, rfl⟩
abbrev main_cst_303 : Ref sig .tc := ⟨.hbm, 1145, rfl⟩
abbrev main_v822 : Ref sig .tc := ⟨.hbm, 1146, rfl⟩
abbrev main_v823 : Ref sig .tc := ⟨.hbm, 1147, rfl⟩
abbrev main_v824 : Ref sig .tc := ⟨.hbm, 1148, rfl⟩
abbrev main_v825 : Ref sig .tc := ⟨.hbm, 1149, rfl⟩
abbrev main_cst_304 : Ref sig .tc := ⟨.hbm, 1150, rfl⟩
abbrev main_v826 : Ref sig .tc := ⟨.hbm, 1151, rfl⟩
abbrev main_cst_305 : Ref sig .tc := ⟨.hbm, 1152, rfl⟩
abbrev main_v827 : Ref sig .tc := ⟨.hbm, 1153, rfl⟩
abbrev main_v828 : Ref sig .tc := ⟨.hbm, 1154, rfl⟩
abbrev main_v829 : Ref sig .tc := ⟨.hbm, 1155, rfl⟩
abbrev main_v830 : Ref sig .tc := ⟨.hbm, 1156, rfl⟩
abbrev main_cst_306 : Ref sig .tc := ⟨.hbm, 1157, rfl⟩
abbrev main_v831 : Ref sig .tc := ⟨.hbm, 1158, rfl⟩
abbrev main_cst_307 : Ref sig .tc := ⟨.hbm, 1159, rfl⟩
abbrev main_v832 : Ref sig .tc := ⟨.hbm, 1160, rfl⟩
abbrev main_v833 : Ref sig .tc := ⟨.hbm, 1161, rfl⟩
abbrev main_v834 : Ref sig .tc := ⟨.hbm, 1162, rfl⟩
abbrev main_v835 : Ref sig .tc := ⟨.hbm, 1163, rfl⟩
abbrev main_cst_308 : Ref sig .tc := ⟨.hbm, 1164, rfl⟩
abbrev main_v836 : Ref sig .tc := ⟨.hbm, 1165, rfl⟩
abbrev main_cst_309 : Ref sig .tc := ⟨.hbm, 1166, rfl⟩
abbrev main_v837 : Ref sig .tc := ⟨.hbm, 1167, rfl⟩
abbrev main_v838 : Ref sig .tc := ⟨.hbm, 1168, rfl⟩
abbrev main_v839 : Ref sig .tc := ⟨.hbm, 1169, rfl⟩
abbrev main_v840 : Ref sig .tc := ⟨.hbm, 1170, rfl⟩
abbrev main_cst_310 : Ref sig .tc := ⟨.hbm, 1171, rfl⟩
abbrev main_v841 : Ref sig .tc := ⟨.hbm, 1172, rfl⟩
abbrev main_cst_311 : Ref sig .tc := ⟨.hbm, 1173, rfl⟩
abbrev main_v842 : Ref sig .tc := ⟨.hbm, 1174, rfl⟩
abbrev main_v843 : Ref sig .tc := ⟨.hbm, 1175, rfl⟩
abbrev main_v844 : Ref sig .tc := ⟨.hbm, 1176, rfl⟩
abbrev main_v845 : Ref sig .tc := ⟨.hbm, 1177, rfl⟩
abbrev main_cst_312 : Ref sig .tc := ⟨.hbm, 1178, rfl⟩
abbrev main_v846 : Ref sig .tc := ⟨.hbm, 1179, rfl⟩
abbrev main_cst_313 : Ref sig .tc := ⟨.hbm, 1180, rfl⟩
abbrev main_v847 : Ref sig .tc := ⟨.hbm, 1181, rfl⟩
abbrev main_v848 : Ref sig .tc := ⟨.hbm, 1182, rfl⟩
abbrev main_v849 : Ref sig .tc := ⟨.hbm, 1183, rfl⟩
abbrev main_v850 : Ref sig .tc := ⟨.hbm, 1184, rfl⟩
abbrev main_cst_314 : Ref sig .tc := ⟨.hbm, 1185, rfl⟩
abbrev main_v851 : Ref sig .tc := ⟨.hbm, 1186, rfl⟩
abbrev main_cst_315 : Ref sig .tc := ⟨.hbm, 1187, rfl⟩
abbrev main_v852 : Ref sig .tc := ⟨.hbm, 1188, rfl⟩
abbrev main_v853 : Ref sig .tc := ⟨.hbm, 1189, rfl⟩
abbrev main_v854 : Ref sig .tc := ⟨.hbm, 1190, rfl⟩
abbrev main_v855 : Ref sig .tc := ⟨.hbm, 1191, rfl⟩
abbrev main_cst_316 : Ref sig .tc := ⟨.hbm, 1192, rfl⟩
abbrev main_v856 : Ref sig .tc := ⟨.hbm, 1193, rfl⟩
abbrev main_cst_317 : Ref sig .tc := ⟨.hbm, 1194, rfl⟩
abbrev main_v857 : Ref sig .tc := ⟨.hbm, 1195, rfl⟩
abbrev main_v858 : Ref sig .tc := ⟨.hbm, 1196, rfl⟩
abbrev main_v859 : Ref sig .tc := ⟨.hbm, 1197, rfl⟩
abbrev main_v860 : Ref sig .tc := ⟨.hbm, 1198, rfl⟩
abbrev main_cst_318 : Ref sig .tc := ⟨.hbm, 1199, rfl⟩
abbrev main_v861 : Ref sig .tc := ⟨.hbm, 1200, rfl⟩
abbrev main_cst_319 : Ref sig .tc := ⟨.hbm, 1201, rfl⟩
abbrev main_v862 : Ref sig .tc := ⟨.hbm, 1202, rfl⟩
abbrev main_v863 : Ref sig .tc := ⟨.hbm, 1203, rfl⟩
abbrev main_v864 : Ref sig .tc := ⟨.hbm, 1204, rfl⟩
abbrev main_v865 : Ref sig .tc := ⟨.hbm, 1205, rfl⟩
abbrev main_cst_320 : Ref sig .tc := ⟨.hbm, 1206, rfl⟩
abbrev main_v866 : Ref sig .tc := ⟨.hbm, 1207, rfl⟩
abbrev main_cst_321 : Ref sig .tc := ⟨.hbm, 1208, rfl⟩
abbrev main_v867 : Ref sig .tc := ⟨.hbm, 1209, rfl⟩
abbrev main_v868 : Ref sig .tc := ⟨.hbm, 1210, rfl⟩
abbrev main_v869 : Ref sig .tc := ⟨.hbm, 1211, rfl⟩
abbrev main_v870 : Ref sig .tc := ⟨.hbm, 1212, rfl⟩
abbrev main_cst_322 : Ref sig .tc := ⟨.hbm, 1213, rfl⟩
abbrev main_v871 : Ref sig .tc := ⟨.hbm, 1214, rfl⟩
abbrev main_cst_323 : Ref sig .tc := ⟨.hbm, 1215, rfl⟩
abbrev main_v872 : Ref sig .tc := ⟨.hbm, 1216, rfl⟩
abbrev main_v873 : Ref sig .tc := ⟨.hbm, 1217, rfl⟩
abbrev main_v874 : Ref sig .tc := ⟨.hbm, 1218, rfl⟩
abbrev main_v875 : Ref sig .tc := ⟨.hbm, 1219, rfl⟩
abbrev main_cst_324 : Ref sig .tc := ⟨.hbm, 1220, rfl⟩
abbrev main_v876 : Ref sig .tc := ⟨.hbm, 1221, rfl⟩
abbrev main_cst_325 : Ref sig .tc := ⟨.hbm, 1222, rfl⟩
abbrev main_v877 : Ref sig .tc := ⟨.hbm, 1223, rfl⟩
abbrev main_v878 : Ref sig .tc := ⟨.hbm, 1224, rfl⟩
abbrev main_v879 : Ref sig .tc := ⟨.hbm, 1225, rfl⟩
abbrev main_v880 : Ref sig .tc := ⟨.hbm, 1226, rfl⟩
abbrev main_cst_326 : Ref sig .tc := ⟨.hbm, 1227, rfl⟩
abbrev main_v881 : Ref sig .tc := ⟨.hbm, 1228, rfl⟩
abbrev main_cst_327 : Ref sig .tc := ⟨.hbm, 1229, rfl⟩
abbrev main_v882 : Ref sig .tc := ⟨.hbm, 1230, rfl⟩
abbrev main_v883 : Ref sig .tc := ⟨.hbm, 1231, rfl⟩
abbrev main_v884 : Ref sig .tc := ⟨.hbm, 1232, rfl⟩
abbrev main_v885 : Ref sig .tc := ⟨.hbm, 1233, rfl⟩
abbrev main_cst_328 : Ref sig .tc := ⟨.hbm, 1234, rfl⟩
abbrev main_v886 : Ref sig .tc := ⟨.hbm, 1235, rfl⟩
abbrev main_cst_329 : Ref sig .tc := ⟨.hbm, 1236, rfl⟩
abbrev main_v887 : Ref sig .tc := ⟨.hbm, 1237, rfl⟩
abbrev main_v888 : Ref sig .tc := ⟨.hbm, 1238, rfl⟩
abbrev main_v889 : Ref sig .tc := ⟨.hbm, 1239, rfl⟩
abbrev main_v890 : Ref sig .tc := ⟨.hbm, 1240, rfl⟩
abbrev main_cst_330 : Ref sig .tc := ⟨.hbm, 1241, rfl⟩
abbrev main_v891 : Ref sig .tc := ⟨.hbm, 1242, rfl⟩
abbrev main_cst_331 : Ref sig .tc := ⟨.hbm, 1243, rfl⟩
abbrev main_v892 : Ref sig .tc := ⟨.hbm, 1244, rfl⟩
abbrev main_v893 : Ref sig .tc := ⟨.hbm, 1245, rfl⟩
abbrev main_v894 : Ref sig .tc := ⟨.hbm, 1246, rfl⟩
abbrev main_v895 : Ref sig .tc := ⟨.hbm, 1247, rfl⟩
abbrev main_cst_332 : Ref sig .tc := ⟨.hbm, 1248, rfl⟩
abbrev main_v896 : Ref sig .tc := ⟨.hbm, 1249, rfl⟩
abbrev main_cst_333 : Ref sig .tc := ⟨.hbm, 1250, rfl⟩
abbrev main_v897 : Ref sig .tc := ⟨.hbm, 1251, rfl⟩
abbrev main_v898 : Ref sig .tc := ⟨.hbm, 1252, rfl⟩
abbrev main_v899 : Ref sig .tc := ⟨.hbm, 1253, rfl⟩
abbrev main_v900 : Ref sig .tc := ⟨.hbm, 1254, rfl⟩
abbrev main_cst_334 : Ref sig .tc := ⟨.hbm, 1255, rfl⟩
abbrev main_v901 : Ref sig .tc := ⟨.hbm, 1256, rfl⟩
abbrev main_cst_335 : Ref sig .tc := ⟨.hbm, 1257, rfl⟩
abbrev main_v902 : Ref sig .tc := ⟨.hbm, 1258, rfl⟩
abbrev main_v903 : Ref sig .tc := ⟨.hbm, 1259, rfl⟩
abbrev main_v904 : Ref sig .tc := ⟨.hbm, 1260, rfl⟩
abbrev main_v905 : Ref sig .tc := ⟨.hbm, 1261, rfl⟩
abbrev main_cst_336 : Ref sig .tc := ⟨.hbm, 1262, rfl⟩
abbrev main_v906 : Ref sig .tc := ⟨.hbm, 1263, rfl⟩
abbrev main_cst_337 : Ref sig .tc := ⟨.hbm, 1264, rfl⟩
abbrev main_v907 : Ref sig .tc := ⟨.hbm, 1265, rfl⟩
abbrev main_v908 : Ref sig .tc := ⟨.hbm, 1266, rfl⟩
abbrev main_v909 : Ref sig .tc := ⟨.hbm, 1267, rfl⟩
abbrev main_v910 : Ref sig .tc := ⟨.hbm, 1268, rfl⟩
abbrev main_cst_338 : Ref sig .tc := ⟨.hbm, 1269, rfl⟩
abbrev main_v911 : Ref sig .tc := ⟨.hbm, 1270, rfl⟩
abbrev main_cst_339 : Ref sig .tc := ⟨.hbm, 1271, rfl⟩
abbrev main_v912 : Ref sig .tc := ⟨.hbm, 1272, rfl⟩
abbrev main_v913 : Ref sig .tc := ⟨.hbm, 1273, rfl⟩
abbrev main_v914 : Ref sig .tc := ⟨.hbm, 1274, rfl⟩
abbrev main_v915 : Ref sig .tc := ⟨.hbm, 1275, rfl⟩
abbrev main_cst_340 : Ref sig .tc := ⟨.hbm, 1276, rfl⟩
abbrev main_v916 : Ref sig .tc := ⟨.hbm, 1277, rfl⟩
abbrev main_cst_341 : Ref sig .tc := ⟨.hbm, 1278, rfl⟩
abbrev main_v917 : Ref sig .tc := ⟨.hbm, 1279, rfl⟩
abbrev main_v918 : Ref sig .tc := ⟨.hbm, 1280, rfl⟩
abbrev main_v919 : Ref sig .tc := ⟨.hbm, 1281, rfl⟩
abbrev main_v920 : Ref sig .tc := ⟨.hbm, 1282, rfl⟩
abbrev main_cst_342 : Ref sig .tc := ⟨.hbm, 1283, rfl⟩
abbrev main_v921 : Ref sig .tc := ⟨.hbm, 1284, rfl⟩
abbrev main_cst_343 : Ref sig .tc := ⟨.hbm, 1285, rfl⟩
abbrev main_v922 : Ref sig .tc := ⟨.hbm, 1286, rfl⟩
abbrev main_v923 : Ref sig .tc := ⟨.hbm, 1287, rfl⟩
abbrev main_v924 : Ref sig .tc := ⟨.hbm, 1288, rfl⟩
abbrev main_v925 : Ref sig .tc := ⟨.hbm, 1289, rfl⟩
abbrev main_cst_344 : Ref sig .tc := ⟨.hbm, 1290, rfl⟩
abbrev main_v926 : Ref sig .tc := ⟨.hbm, 1291, rfl⟩
abbrev main_cst_345 : Ref sig .tc := ⟨.hbm, 1292, rfl⟩
abbrev main_v927 : Ref sig .tc := ⟨.hbm, 1293, rfl⟩
abbrev main_v928 : Ref sig .tc := ⟨.hbm, 1294, rfl⟩
abbrev main_v929 : Ref sig .tc := ⟨.hbm, 1295, rfl⟩
abbrev main_v930 : Ref sig .tc := ⟨.hbm, 1296, rfl⟩
abbrev main_cst_346 : Ref sig .tc := ⟨.hbm, 1297, rfl⟩
abbrev main_v931 : Ref sig .tc := ⟨.hbm, 1298, rfl⟩
abbrev main_cst_347 : Ref sig .tc := ⟨.hbm, 1299, rfl⟩
abbrev main_v932 : Ref sig .tc := ⟨.hbm, 1300, rfl⟩
abbrev main_v933 : Ref sig .tc := ⟨.hbm, 1301, rfl⟩
abbrev main_v934 : Ref sig .tc := ⟨.hbm, 1302, rfl⟩
abbrev main_v935 : Ref sig .tc := ⟨.hbm, 1303, rfl⟩
abbrev main_cst_348 : Ref sig .tc := ⟨.hbm, 1304, rfl⟩
abbrev main_v936 : Ref sig .tc := ⟨.hbm, 1305, rfl⟩
abbrev main_cst_349 : Ref sig .tc := ⟨.hbm, 1306, rfl⟩
abbrev main_v937 : Ref sig .tc := ⟨.hbm, 1307, rfl⟩
abbrev main_v938 : Ref sig .tc := ⟨.hbm, 1308, rfl⟩
abbrev main_v939 : Ref sig .tc := ⟨.hbm, 1309, rfl⟩
abbrev main_v940 : Ref sig .tc := ⟨.hbm, 1310, rfl⟩
abbrev main_cst_350 : Ref sig .tc := ⟨.hbm, 1311, rfl⟩
abbrev main_v941 : Ref sig .tc := ⟨.hbm, 1312, rfl⟩
abbrev main_cst_351 : Ref sig .tc := ⟨.hbm, 1313, rfl⟩
abbrev main_v942 : Ref sig .tc := ⟨.hbm, 1314, rfl⟩
abbrev main_v943 : Ref sig .tc := ⟨.hbm, 1315, rfl⟩
abbrev main_v944 : Ref sig .tc := ⟨.hbm, 1316, rfl⟩
abbrev main_v945 : Ref sig .tc := ⟨.hbm, 1317, rfl⟩
abbrev main_cst_352 : Ref sig .tc := ⟨.hbm, 1318, rfl⟩
abbrev main_v946 : Ref sig .tc := ⟨.hbm, 1319, rfl⟩
abbrev main_cst_353 : Ref sig .tc := ⟨.hbm, 1320, rfl⟩
abbrev main_v947 : Ref sig .tc := ⟨.hbm, 1321, rfl⟩
abbrev main_v948 : Ref sig .tc := ⟨.hbm, 1322, rfl⟩
abbrev main_v949 : Ref sig .tc := ⟨.hbm, 1323, rfl⟩
abbrev main_v950 : Ref sig .tc := ⟨.hbm, 1324, rfl⟩
abbrev main_cst_354 : Ref sig .tc := ⟨.hbm, 1325, rfl⟩
abbrev main_v951 : Ref sig .tc := ⟨.hbm, 1326, rfl⟩
abbrev main_cst_355 : Ref sig .tc := ⟨.hbm, 1327, rfl⟩
abbrev main_v952 : Ref sig .tc := ⟨.hbm, 1328, rfl⟩
abbrev main_v953 : Ref sig .tc := ⟨.hbm, 1329, rfl⟩
abbrev main_v954 : Ref sig .tc := ⟨.hbm, 1330, rfl⟩
abbrev main_v955 : Ref sig .tc := ⟨.hbm, 1331, rfl⟩
abbrev main_cst_356 : Ref sig .tc := ⟨.hbm, 1332, rfl⟩
abbrev main_v956 : Ref sig .tc := ⟨.hbm, 1333, rfl⟩
abbrev main_cst_357 : Ref sig .tc := ⟨.hbm, 1334, rfl⟩
abbrev main_v957 : Ref sig .tc := ⟨.hbm, 1335, rfl⟩
abbrev main_v958 : Ref sig .tc := ⟨.hbm, 1336, rfl⟩
abbrev main_v959 : Ref sig .tc := ⟨.hbm, 1337, rfl⟩
abbrev main_v960 : Ref sig .tc := ⟨.hbm, 1338, rfl⟩
abbrev main_cst_358 : Ref sig .tc := ⟨.hbm, 1339, rfl⟩
abbrev main_v961 : Ref sig .tc := ⟨.hbm, 1340, rfl⟩
abbrev main_cst_359 : Ref sig .tc := ⟨.hbm, 1341, rfl⟩
abbrev main_v962 : Ref sig .tc := ⟨.hbm, 1342, rfl⟩
abbrev main_v963 : Ref sig .tc := ⟨.hbm, 1343, rfl⟩
abbrev main_v964 : Ref sig .tc := ⟨.hbm, 1344, rfl⟩
abbrev main_v965 : Ref sig .tc := ⟨.hbm, 1345, rfl⟩
abbrev main_cst_360 : Ref sig .tc := ⟨.hbm, 1346, rfl⟩
abbrev main_v966 : Ref sig .tc := ⟨.hbm, 1347, rfl⟩
abbrev main_cst_361 : Ref sig .tc := ⟨.hbm, 1348, rfl⟩
abbrev main_v967 : Ref sig .tc := ⟨.hbm, 1349, rfl⟩
abbrev main_v968 : Ref sig .tc := ⟨.hbm, 1350, rfl⟩
abbrev main_v969 : Ref sig .tc := ⟨.hbm, 1351, rfl⟩
abbrev main_v970 : Ref sig .tc := ⟨.hbm, 1352, rfl⟩
abbrev main_cst_362 : Ref sig .tc := ⟨.hbm, 1353, rfl⟩
abbrev main_v971 : Ref sig .tc := ⟨.hbm, 1354, rfl⟩
abbrev main_cst_363 : Ref sig .tc := ⟨.hbm, 1355, rfl⟩
abbrev main_v972 : Ref sig .tc := ⟨.hbm, 1356, rfl⟩
abbrev main_v973 : Ref sig .tc := ⟨.hbm, 1357, rfl⟩
abbrev main_v974 : Ref sig .tc := ⟨.hbm, 1358, rfl⟩
abbrev main_v975 : Ref sig .tc := ⟨.hbm, 1359, rfl⟩
abbrev main_cst_364 : Ref sig .tc := ⟨.hbm, 1360, rfl⟩
abbrev main_v976 : Ref sig .tc := ⟨.hbm, 1361, rfl⟩
abbrev main_cst_365 : Ref sig .tc := ⟨.hbm, 1362, rfl⟩
abbrev main_v977 : Ref sig .tc := ⟨.hbm, 1363, rfl⟩
abbrev main_v978 : Ref sig .tc := ⟨.hbm, 1364, rfl⟩
abbrev main_v979 : Ref sig .tc := ⟨.hbm, 1365, rfl⟩
abbrev main_v980 : Ref sig .tc := ⟨.hbm, 1366, rfl⟩
abbrev main_cst_366 : Ref sig .tc := ⟨.hbm, 1367, rfl⟩
abbrev main_v981 : Ref sig .tc := ⟨.hbm, 1368, rfl⟩
abbrev main_cst_367 : Ref sig .tc := ⟨.hbm, 1369, rfl⟩
abbrev main_v982 : Ref sig .tc := ⟨.hbm, 1370, rfl⟩
abbrev main_v983 : Ref sig .tc := ⟨.hbm, 1371, rfl⟩
abbrev main_cst_368 : Ref sig .tc := ⟨.hbm, 1372, rfl⟩
abbrev main_v984 : Ref sig .tc := ⟨.hbm, 1373, rfl⟩
abbrev main_cst_369 : Ref sig .tc := ⟨.hbm, 1374, rfl⟩
abbrev main_v985 : Ref sig .tc := ⟨.hbm, 1375, rfl⟩
abbrev main_v986 : Ref sig .tc := ⟨.hbm, 1376, rfl⟩

abbrev nD : Nat := 1
abbrev τ : Topo := Topo.v7x

variable {F : FTy → Type} [FloatOps F]
-- ==== Proof.Island.Math.lean ====
/-
  The island loss over the reals: the sums that both programs form, and the two identities that make them equal.
  A class is a natural number; `k n c` is 1 where row `n` has the label `c` and 0 elsewhere.
-/
module

public import Mathlib.Data.Real.Basic
public import Mathlib.Algebra.BigOperators.Ring.Finset
public import Mathlib.Algebra.BigOperators.Fin
public import Mathlib.Algebra.BigOperators.Field
public import Mathlib.Tactic.Ring
public import Mathlib.Tactic.FieldSimp
public import Mathlib.Tactic.Linarith

@[expose] public section

noncomputable section

namespace Cert.Island

variable (e : Fin 4096 → Fin 512 → ℝ) (k : Fin 4096 → ℕ → ℝ)

/-- How many rows class `c` has. -/
def cnt (c : ℕ) : ℝ := ∑ n, k n c

/-- The divisor of class `c`: its number of rows, and 1 for an empty class. -/
def safe (c : ℕ) : ℝ := max (cnt k c) 1

/-- The sum of the rows of class `c`, at column `d`. -/
def tot (c : ℕ) (d : Fin 512) : ℝ := ∑ n, k n c * e n d

/-- The sum of the squares of the rows of class `c`, at column `d`. -/
def sqs (c : ℕ) (d : Fin 512) : ℝ := ∑ n, k n c * (e n d * e n d)

/-- The mean of class `c`, at column `d`. -/
def mean (c : ℕ) (d : Fin 512) : ℝ := tot e k c d / safe k c

/-- The squared distance of the rows of class `c` from their mean, summed. -/
def spread (c : ℕ) : ℝ := ∑ n, ∑ d, (e n d - mean e k c d) * k n c * ((e n d - mean e k c d) * k n c)

/-- What class `c` adds to the first part of the loss, as the reference writes it. -/
def lossRef (c : ℕ) : ℝ := if 1 < cnt k c then spread e k c / (safe k c * 512) else 0

/-- What class `c` adds to the first part of the loss, as the kernel writes it: by sums of squares and squared sums. -/
def lossKer (c : ℕ) : ℝ :=
  if 1 < cnt k c then
    (∑ d, sqs e k c d - (∑ d, tot e k c d * tot e k c d) / safe k c) / (safe k c * 512) else 0

/-- The mean squared distance of two classes' means. -/
def apart (i j : ℕ) : ℝ :=
  (∑ d, (mean e k i d - mean e k j d) * (mean e k i d - mean e k j d)) / 512

/-- The second part of the loss as the reference writes it: every pair of classes once. -/
def interRef : ℝ :=
  ((List.range' 0 16).map fun i => ((List.range' (i + 1) (15 - i)).map fun j => apart e k i j).sum).sum

/-- The second part of the loss as the kernel writes it. -/
def interKer : ℝ :=
  (16 * (∑ c : Fin 16, ∑ d, mean e k c d * mean e k c d)
    - ∑ d, (∑ c : Fin 16, mean e k c d) * (∑ c : Fin 16, mean e k c d)) / 512

/-- The divisor is positive. -/
theorem safe_pos (c : ℕ) : 0 < safe k c := lt_of_lt_of_le one_pos (le_max_right _ _)

/-- So it is not zero. -/
theorem safe_ne (c : ℕ) : safe k c ≠ 0 := (safe_pos k c).ne'

/-- At one column: the squared distances from the mean are the squares' sum less the squared sum over the count. -/
theorem spread_col (hk : ∀ n c, k n c = 0 ∨ k n c = 1) (c : ℕ) (h : 1 < cnt k c) (d : Fin 512) :
    ∑ n, (e n d - mean e k c d) * k n c * ((e n d - mean e k c d) * k n c)
      = sqs e k c d - tot e k c d * tot e k c d / safe k c := by
  have hs : safe k c = cnt k c := max_eq_left h.le
  have hterm : ∀ n, (e n d - mean e k c d) * k n c * ((e n d - mean e k c d) * k n c)
      = k n c * (e n d * e n d) - 2 * mean e k c d * (k n c * e n d)
        + mean e k c d * mean e k c d * k n c := by
    intro n
    rcases hk n c with h0 | h1
    · rw [h0]; ring
    · rw [h1]; ring
  simp only [hterm, Finset.sum_add_distrib, Finset.sum_sub_distrib, ← Finset.mul_sum]
  change sqs e k c d - 2 * mean e k c d * tot e k c d + mean e k c d * mean e k c d * cnt k c = _
  have hne := safe_ne k c
  rw [← hs]
  unfold mean
  field_simp
  ring

/-- The two programs add the same for every class. -/
theorem lossKer_eq (hk : ∀ n c, k n c = 0 ∨ k n c = 1) (c : ℕ) : lossKer e k c = lossRef e k c := by
  unfold lossKer lossRef
  split
  · rename_i h
    congr 1
    unfold spread
    rw [Finset.sum_comm]
    simp only [spread_col e k hk c h, Finset.sum_sub_distrib, Finset.sum_div]
  · rfl

/-- A sum over a list of sums over the columns is the sum over the columns of the sums over the list. -/
theorem list_sum_cols (L : List ℕ) (f : ℕ → Fin 512 → ℝ) :
    (L.map fun j => (∑ d, f j d) / 512).sum = (∑ d, (L.map fun j => f j d).sum) / 512 := by
  induction L with
  | nil => simp
  | cons a L ih => simp only [List.map_cons, List.sum_cons, ih, Finset.sum_add_distrib, add_div]

/-- The squared differences of sixteen numbers, each pair once, are sixteen times the sum of squares less the square
    of the sum. -/
theorem pairs_eq (x : ℕ → ℝ) :
    ((List.range' 0 16).map fun i =>
        ((List.range' (i + 1) (15 - i)).map fun j => (x i - x j) * (x i - x j)).sum).sum
      = 16 * (∑ c : Fin 16, x c * x c) - (∑ c : Fin 16, x c) * (∑ c : Fin 16, x c) := by
  simp [List.range', Fin.sum_univ_succ]
  ring

/-- The two programs' second parts are the same. -/
theorem interKer_eq : interKer e k = interRef e k := by
  unfold interRef apart
  simp only [list_sum_cols]
  simp only [pairs_eq fun c => mean e k c _]
  unfold interKer
  rw [Finset.sum_sub_distrib, ← Finset.mul_sum, Finset.sum_comm]

end Cert.Island

end
-- ==== Proof.Island.Coe.lean ====
/-
  The ideal instance's operations on finite numbers: each keeps to the reals.
-/
module

public import Idealize.ShloMosaic.Lib.Pointwise
public import Idealize.ShloMosaic.Lib.IdealHost
public import proofs.«01_k».proof.Proof.Island.Math

@[expose] public section

noncomputable section

namespace Cert.Island

open Idealize.ShloMosaic

/-- A sum of reals, taken over the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real. -/
theorem div_real (x y : ℝ) (hy : y ≠ 0) : Ideal.div (x : EReal) (y : EReal) = ((x / y : ℝ) : EReal) := by
  rw [Ideal.div_coe hy, ← EReal.coe_mul, mul_one_div]

/-- The larger of two reals. -/
theorem max_real (x y : ℝ) : max (x : EReal) (y : EReal) = ((max x y : ℝ) : EReal) :=
  ((EReal.coe_strictMono.monotone).map_max).symm

/-- A choice between a real and zero, by whether another real exceeds one. -/
theorem ite_real (x a : ℝ) :
    (if (1 : EReal) < (x : EReal) then (a : EReal) else 0) = ((if 1 < x then a else 0 : ℝ) : EReal) := by
  rw [← EReal.coe_one]
  by_cases h : 1 < x
  · rw [if_pos h, if_pos (EReal.coe_lt_coe_iff.mpr h)]
  · rw [if_neg h, if_neg fun h' => h (EReal.coe_lt_coe_iff.mp h'), EReal.coe_zero]

/-- The term of the loss of one class, a quotient by a positive divisor. -/
theorem loss_real (x s a : ℝ) (hs : s ≠ 0) :
    (if (1 : EReal) < (x : EReal) then Ideal.div (a : EReal) ((s * 512 : ℝ) : EReal) else 0)
      = ((if 1 < x then a / (s * 512) else 0 : ℝ) : EReal) := by
  rw [div_real _ _ (mul_ne_zero hs (by norm_num)), ite_real]

/-! ### The programs' constants -/

/-- The word of one half. -/
theorem word_half : Ideal.ofBits .f32 0x3F000000#32 = ((1 / 2 : ℝ) : EReal) := by
  simp [Ideal.ofBits, Ideal.ieee, -EReal.coe_mul]; norm_num

/-- The word of sixteen. -/
theorem word_16 : Ideal.ofBits .f32 0x41800000#32 = ((16 : ℝ) : EReal) := by
  simp [Ideal.ofBits, Ideal.ieee, -EReal.coe_mul]; norm_num

/-- The word of 512. -/
theorem word_512 : Ideal.ofBits .f32 0x44000000#32 = ((512 : ℝ) : EReal) := by
  simp [Ideal.ofBits, Ideal.ieee, -EReal.coe_mul]; norm_num

/-- One where row `n`'s label is the class `c`, else zero. -/
def mask (l : Fin 4096 → BitVec 32) (n : Fin 4096) (c : ℕ) : ℝ := if l n = BitVec.ofNat 32 c then 1 else 0

/-- The mask is zero or one everywhere. -/
theorem mask_01 (l : Fin 4096 → BitVec 32) (n : Fin 4096) (c : ℕ) : mask l n c = 0 ∨ mask l n c = 1 := by
  unfold mask; split <;> simp

/-- The kernel's mask: the comparison's bit widened to a word and read as a number. -/
theorem bit_word (a b : BitVec 32) :
    FloatOps.sitofp (F := Ideal) .f32 ((IntOp.cmpi .eq a b).setWidth 32) = ((if a = b then 1 else 0 : ℝ) : EReal) := by
  show ((((((IntOp.cmpi .eq a b).setWidth 32).toInt : ℤ) : ℝ)) : EReal) = _
  by_cases h : a = b
  · simp [IntOp.cmpi, h]
  · have hb : (a == b) = false := by simp [h]
    simp [IntOp.cmpi, h, hb]

/-- The reference's mask: the comparison's bit read as a number. -/
theorem bit_host (a b : BitVec 32) :
    FloatOps.uitofp (F := Ideal) .f32 (IntOp.cmpi .eq a b) = ((if a = b then 1 else 0 : ℝ) : EReal) := by
  show (((((IntOp.cmpi .eq a b).toNat : ℕ) : ℝ)) : EReal) = _
  by_cases h : a = b <;> simp [IntOp.cmpi, h]

end Cert.Island

end
-- ==== Proof.Island.KernelMath.lean ====
/-
  What the kernel's body computes of finite rows, read off its payloads: the loss by one-hot products.
-/
module

public import proofs.«01_k».proof.Proof.Island.Coe
public import proofs.«01_k».proof.Proof.Gen.KernelIdeal.Skeleton

@[expose] public section

set_option maxRecDepth 16384

noncomputable section

namespace Cert.KernelIdeal.Island

open Idealize.ShloMosaic Cert.KernelIdeal Cert.KernelIdeal.Gen Cert.Island

variable (x : Vec Ideal S4096x512 .f32) (y : Vec Ideal S4096x1 .i32)
variable (e : Fin 4096 → Fin 512 → ℝ) (l : Fin 4096 → BitVec 32)

/-- The one-hot mask, at row `n` and class `c`. -/
theorem pay2_at (hy : ∀ n, y (ix2 n 0) = l n) (n : Fin 4096) (c : Fin 16) :
    k0_pay2 (F := Ideal) y (ix2 n c) = ((mask l n c : ℝ) : EReal) := by
  pointwise [k0_pay2]
  rw [hy]
  exact bit_word _ _

/-- The product of the mask and the rows: the classes' sums. -/
theorem pay3_at (hx : ∀ n d, x (ix2 n d) = ((e n d : ℝ) : EReal)) (hy : ∀ n, y (ix2 n 0) = l n) (c : Fin 16) (d : Fin 512) :
    k0_pay3 (F := Ideal) x y (ix2 c d) = ((tot e (mask l) c d : ℝ) : EReal) := by
  pointwise [k0_pay3, pay2_at y l hy, hx]
  simp only [← EReal.coe_mul, coe_sum]
  rfl

/-- The mask's sum over the rows: the classes' counts. -/
theorem pay4_at (hy : ∀ n, y (ix2 n 0) = l n) (c : Fin 16) :
    k0_pay4 (F := Ideal) y (ix2 0 c) = ((cnt (mask l) c : ℝ) : EReal) := by
  pointwise [k0_pay4, pay2_at y l hy]
  simp only [coe_sum]
  rfl

/-- The classes' divisors. -/
theorem pay5_at (hy : ∀ n, y (ix2 n 0) = l n) (c : Fin 16) :
    k0_pay5 (F := Ideal) y (ix2 0 c) = ((safe (mask l) c : ℝ) : EReal) := by
  pointwise [k0_pay5, pay4_at y l hy]
  rw [← EReal.coe_one, max_real]
  rfl

/-- The classes' means. -/
theorem pay7_at (hx : ∀ n d, x (ix2 n d) = ((e n d : ℝ) : EReal)) (hy : ∀ n, y (ix2 n 0) = l n) (c : Fin 16) (d : Fin 512) :
    k0_pay7 (F := Ideal) x y (ix2 c d) = ((mean e (mask l) c d : ℝ) : EReal) := by
  pointwise [k0_pay7, pay3_at x y e l hx hy, pay5_at y l hy]
  rw [div_real _ _ (safe_ne _ _)]
  rfl

/-- The sum of the squares of the classes' means. -/
theorem pay8_at (hx : ∀ n d, x (ix2 n d) = ((e n d : ℝ) : EReal)) (hy : ∀ n, y (ix2 n 0) = l n) :
    k0_pay8 (F := Ideal) x y
      = ((∑ c : Fin 16, ∑ d, mean e (mask l) c d * mean e (mask l) c d : ℝ) : EReal) := by
  unfold k0_pay8
  pointwise [extractAt, pay7_at x y e l hx hy]
  simp only [← EReal.coe_mul, coe_sum]

/-- The first part of the loss. -/
theorem pay6_at (hx : ∀ n d, x (ix2 n d) = ((e n d : ℝ) : EReal)) (hy : ∀ n, y (ix2 n 0) = l n) :
    k0_pay6 (F := Ideal) x y = ((∑ c : Fin 16, lossKer e (mask l) c : ℝ) : EReal) := by
  unfold k0_pay6
  pointwise [extractAt, pay2_at y l hy, pay3_at x y e l hx hy, pay4_at y l hy, pay5_at y l hy, hx]
  simp only [← EReal.coe_mul, coe_sum, div_real _ _ (safe_ne _ _), ← EReal.coe_sub, word_512, loss_real _ _ _ (safe_ne _ _),
    Finset.univ_unique, Finset.sum_singleton]
  rfl

/-- What the body stores, of the three values that it has formed before. -/
theorem pay1_at (a b : ℝ) (v : FVec Ideal S16x512 .f32) (w : ℕ → Fin 512 → ℝ)
    (hv : ∀ (c : Fin 16) d, v (ix2 c d) = ((w c d : ℝ) : EReal)) :
    k0_pay1 (F := Ideal) (a : EReal) v (b : EReal)
      = ((1 / 2 * a + 1 / 2 * ((16 * b - ∑ d, (∑ c : Fin 16, w c d) * (∑ c : Fin 16, w c d)) / 512) : ℝ) : EReal) := by
  unfold k0_pay1
  pointwise [extractAt, hv]
  simp only [word_half, word_16, word_512, coe_sum, ← EReal.coe_mul, ← EReal.coe_sub]
  rw [div_real _ _ (by norm_num)]
  simp only [Finset.univ_unique, Finset.sum_singleton, ← EReal.coe_mul, ← EReal.coe_add]

/-- What the body stores: the loss of the rows `e` with the labels `l`, as the kernel writes it. -/
theorem stored (hx : ∀ n d, x (ix2 n d) = ((e n d : ℝ) : EReal)) (hy : ∀ n, y (ix2 n 0) = l n) :
    k0_pay1 (F := Ideal) (k0_pay6 x y) (k0_pay7 x y) (k0_pay8 x y)
      = ((1 / 2 * (∑ c : Fin 16, lossKer e (mask l) c) + 1 / 2 * interKer e (mask l) : ℝ) : EReal) := by
  rw [pay6_at x y e l hx hy, pay8_at x y e l hx hy, pay1_at _ _ _ (mean e (mask l)) (pay7_at x y e l hx hy)]
  rfl

end Cert.KernelIdeal.Island

end
-- ==== Proof.Island.KernelRun.lean ====
module

public import proofs.«01_k».proof.Proof.Gen.KernelIdeal.Frame
public import Idealize.ShloMosaic.Lib.Pipeline.Value
public import Idealize.ShloMosaic.Lib.StableHlo.Run
public import Idealize.ShloMosaic.Lib.Tactic

/-! What a run of the kernel leaves in its result: the one number the body stores, computed from the argument
arrays. Nothing here depends on what the float operations are. -/

@[expose] public section

noncomputable section

namespace Cert.KernelIdeal.Island

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The two zeros the body writes as an offset are the origin. -/
theorem origin : (![0, 0] : Fin 2 → ℕ) = fun _ => 0 := by
  funext a; fin_cases a <;> rfl

/-- The number the body stores, from the rows `x` and the labels `y`. -/
def loss (x : Vec F S4096x512 .f32) (y : Vec F S4096x1 .i32) : F .f32 :=
  k0_pay1 (k0_pay6 x y) (k0_pay7 x y) (k0_pay8 x y)

/-- The body leaves that number in its one-by-one output. -/
theorem out_eq (c : Dev nD) (a0 : Memref sig .tc .vmem S4096x512 .f32) (h0 : a0.IsWhole)
    (a1 : Memref sig .tc .vmem S4096x1 .i32) (h1 : a1.IsWhole) (a2 : Memref sig .tc .smem S1x1 .f32) (h2 : a2.IsWhole)
    (x : Vec F S4096x512 .f32) (y : Vec F S4096x1 .i32) :
    out0_A_2 c a0 h0 a1 h1 a2 h2 x y = fun _ => loss x y := by
  unfold out0_A_2
  rw [View.read_writes_eq_canon _ _ _ (cover0_A_2 c a0 h0 a1 h1 a2 h2 x y)]
  unfold kernelRun0_A
  dsimp only
  sl_unfold_words
  rw [View.canon_unit_zero origin]
  simp only [View.readAt_eq_ld, h0.read_unread, h1.read_unread, View.ld_unit_zero (S := S4096x512) origin,
    View.ld_unit_zero (S := S4096x1) origin]
  rfl

/-- A window on a whole array starts at its origin. -/
theorem start0 (t : Fin cfg0.N) : (fun a => win0_0.index t a * main_arg0.ty.shape.size a) = fun _ => 0 :=
  funext fun _ => Nat.zero_mul _

/-- So does the window on the labels. -/
theorem start1 (t : Fin cfg0.N) : (fun a => win0_1.index t a * main_v0.ty.shape.size a) = fun _ => 0 :=
  funext fun _ => Nat.zero_mul _

/-- And the window on the result. -/
theorem start2 (t : Fin cfg0.N) : (fun a => win0_2.index t a * main_v1.ty.shape.size a) = fun _ => 0 :=
  funext fun _ => Nat.zero_mul _

/-- The block of rows the body reads is the array of rows. -/
theorem rows_block (c : Dev nD) (t : Fin cfg0.N) : iblk m c 0 t = m ((c : Thread nD τ).loc main_arg0) := by
  unfold iblk
  exact (Memref.read_access_unit_zero (Elt F) main_arg0 (start0 t) (fun a => by rw [congrFun (start0 t) a]; simp)
    (V m c main_arg0)).trans (V_main_arg0 m c)

/-- The labels in one column. -/
abbrev column (c : Dev nD) : Vec F S4096x1 .i32 :=
  shapeCast S4096x1 (m ((c : Thread nD τ).loc main_arg1)) shapeCasts_S4096_S4096x1

/-- The block of labels the body reads is that column. -/
theorem labels_block (c : Dev nD) (t : Fin cfg0.N) : iblk m c 1 t = column m c := by
  unfold iblk
  refine (Memref.read_access_unit_zero (Elt F) main_v0 (start1 t) (fun a => by rw [congrFun (start1 t) a]; simp)
    (V m c main_v0)).trans ?_
  unfold V V0
  simp only [List.flatten_cons, List.flatten_nil, List.append_nil]
  after_results
  rfl

/-- The number the program computes. -/
def number (c : Dev nD) : F .f32 := loss (m ((c : Thread nD τ).loc main_arg0)) (column m c)

/-- What the body leaves in its output at the one grid point is the number. -/
theorem outsAt_eq (c : Dev nD) (t : Fin cfg0.N) : outsAt0 m c t = fun _ => number m c := by
  unfold outsAt0
  rw [out_eq, rows_block, labels_block]
  rfl

/-- It as the contents of the body's one-by-one result. -/
abbrev square (c : Dev nD) : Buf (Elt F) ((c : Thread nD τ).loc main_v1) := fun _ => number m c

/-- What is written back is that number. -/
theorem flushed_eq (c : Dev nD) (t : Fin cfg0.N) :
    (dats m 0 c).flushed 2 t = ((cfg0.win 2).blk t).view.read (Elt F) (square m c) := by
  show (cfg0.win 2).cut (grid0.coords t) ((dats m 0 c).after 2 t) = _
  rw [after0_2, outsAt_eq]
  exact (Memref.read_access_unit_zero (Elt F) main_v1 (start2 t) (fun a => by rw [congrFun (start2 t) a]; simp)
    (square m c)).symm

/-- The grid's one point. -/
def point : Fin cfg0.N := ⟨0, by decide⟩

/-- So the body's result array ends with it. -/
theorem square_eq (c : Dev nD) : (dats m 0 c).arrAt 2 cfg0.N = square m c :=
  (dats m 0 c).arrAt_eq_of_cover 2 (square m c) (fun t _ => flushed_eq m c t) fun i =>
    ⟨point, flush0_2 _, by
      show i ∈ ((View.whole main_v1).slice (win0_2.rect point)).set
      rw [View.set_slice_whole]
      exact View.mem_set_unit_zero (S := S1x1) (start2 point) _ i⟩

/-- And the program's result, read off it by the reshape to no axes, is that number. -/
theorem tail_eq (c : Dev nD) :
    Pipeline.afterTail₀ cfgs (dats m) 0 (V0 m) [hostOps1] c main_v2 = fun _ => number m c := by
  unfold Pipeline.afterTail₀
  simp only [List.flatten_cons, List.flatten_nil, List.append_nil]
  after_results
  have h : Pipeline.withArrays (cfgs 0).spec c (V0 m c) (fun w => (dats m 0 c).arrAt w (cfgs 0).N)
      (Proc.devRef .tc main_v1) = square m c :=
    (Pipeline.withArrays_arr _ launch0.win.arr_inj c (V0 m c) (fun w => (dats m 0 c).arrAt w (cfgs 0).N) 2).trans
      (square_eq m c)
  exact congrArg (fun v => shapeCast S_ v shapeCasts_S1x1_S_) h

/-- A run of the kernel ends with the number in its result and the arguments as they were. -/
theorem run : θ_run defs (onTc (τ := τ) (main (F := F))) ⟨m, fun _ => 0, ρ⟩ fun r => ∀ c : Dev nD,
    r.2.mem ((c.tc : Thread nD τ).loc main_v2) = (fun _ => number m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono
    (fun _ h c => ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Island
-- ==== Proof.Island.Ref.lean ====
/-
  The reference's computation class by class and pair by pair, and what each step gives on finite rows.
-/
module

public import proofs.«01_k».proof.Proof.Island.Coe
public import proofs.«01_k».proof.Proof.Gen.ReferenceIdeal

@[expose] public section

set_option maxRecDepth 16384

noncomputable section

namespace Cert.ReferenceIdeal.Island

open Idealize.ShloMosaic Cert.ReferenceIdeal Cert.ReferenceIdeal.Gen Cert.Island

/-! ### The steps, for any float operations -/

section steps

variable {F : FTy → Type} [FloatOps F] (x : FVec F S4096x512 .f32) (y : IVec S4096 32)

/-- The number zero. -/
def nil : FVec F S_ .f32 := constant S_ .f32 0x00000000#32

/-- The rows labelled `c`, as zeros and ones. -/
def maskOf (c : ℕ) : FVec F S4096 .f32 :=
  uitofp .f32 (cmpi .eq y (broadcastInDim S4096 ![] bcast_S_S4096 (constantI S_ 32 (BitVec.ofNat 32 c))))

/-- That mask along the columns. -/
def maskRows (c : ℕ) : FVec F S4096x512 .f32 :=
  broadcastInDim S4096x512 ![0, 1] bcast_S4096x1_S4096x512_0_1 (broadcastInDim S4096x1 ![0] bcast_S4096_S4096x1_0 (maskOf y c))

/-- How many rows are labelled `c`. -/
def countOf (c : ℕ) : FVec F S_ .f32 := Host.reduceAdd (maskOf y c) nil reducesTo_S4096_S_d0 h_S_

/-- That, at least one. -/
def safeOf (c : ℕ) : FVec F S_ .f32 := maximumf (countOf y c) (constant S_ .f32 0x3F800000#32)

/-- The class's mean row. -/
def meanOf (c : ℕ) : FVec F S512 .f32 :=
  Host.divf (Host.reduceAdd (mulf x (maskRows y c)) nil reducesTo_S4096x512_S512_d0 h_S_)
    (broadcastInDim S512 ![] bcast_S_S512 (safeOf y c))

/-- The class's rows less their mean. -/
def diffOf (c : ℕ) : FVec F S4096x512 .f32 :=
  mulf (subf x (broadcastInDim S4096x512 ![0, 1] bcast_S1x512_S4096x512_0_1 (broadcastInDim S1x512 ![1] bcast_S512_S1x512_1 (meanOf x y c))))
    (maskRows y c)

/-- The class's term of the loss. -/
def lossOf (c : ℕ) : FVec F S_ .f32 :=
  select (cmpf (F := F) .ogt (countOf y c) (constant S_ .f32 0x3F800000#32))
    (Host.divf (Host.reduceAdd (mulf (diffOf x y c) (diffOf x y c)) nil reducesTo_S4096x512_S_d0_1 h_S_)
      (mulf (safeOf y c) (constant S_ .f32 0x44000000#32)))
    (id nil)

/-- The difference of two classes' means. -/
def gapOf (i j : ℕ) : FVec F S512 .f32 := subf (meanOf x y i) (meanOf x y j)

/-- The term of two classes. -/
def pairOf (i j : ℕ) : FVec F S_ .f32 :=
  Host.divf (Host.reduceAdd (mulf (gapOf x y i j) (gapOf x y i j)) nil reducesTo_S512_S_d0 h_S_) (constant S_ .f32 0x44000000#32)

/-- The classes' terms, summed in order. -/
def intraOf : FVec F S_ .f32 := (List.range' 0 16).foldl (fun a c => addf a (lossOf x y c)) nil

/-- The pairs' terms, summed in order. -/
def interOf : FVec F S_ .f32 :=
  (List.range' 0 16).foldl (fun a i => (List.range' (i + 1) (15 - i)).foldl (fun a j => addf a (pairOf x y i j)) a) nil

/-- The loss. -/
def lossAll : FVec F S_ .f32 :=
  addf (mulf (constant S_ .f32 0x3F000000#32) (intraOf x y)) (mulf (constant S_ .f32 0x3F000000#32) (interOf x y))

end steps

/-! ### On finite rows, over the extended reals -/

variable (x : FVec Ideal S4096x512 .f32) (y : IVec S4096 32)
variable (e : Fin 4096 → Fin 512 → ℝ) (l : Fin 4096 → BitVec 32)

/-- The sum starts from zero. -/
theorem nil_at (o : S_.Idx) : nil (F := Ideal) o = ((0 : ℝ) : EReal) := by
  pointwise [nil]
  exact EReal.coe_zero.symm

/-- The mask of one class, at row `n`. -/
theorem maskOf_at (hy : ∀ n, y (ix1 n) = l n) (c : ℕ) (n : Fin 4096) :
    maskOf (F := Ideal) y c (ix1 n) = ((mask l n c : ℝ) : EReal) := by
  pointwise [maskOf]
  rw [hy]
  exact bit_host _ _

/-- The mask repeated along a row. -/
theorem maskRows_at (hy : ∀ n, y (ix1 n) = l n) (c : ℕ) (n : Fin 4096) (d : Fin 512) :
    maskRows (F := Ideal) y c (ix2 n d) = ((mask l n c : ℝ) : EReal) := by
  pointwise [maskRows, maskOf_at y l hy]

/-- The number of rows of one class. -/
theorem countOf_at (hy : ∀ n, y (ix1 n) = l n) (c : ℕ) (o : S_.Idx) :
    countOf (F := Ideal) y c o = ((cnt (mask l) c : ℝ) : EReal) := by
  pointwise [countOf, nil, maskOf_at y l hy]
  rw [coe_sum]
  rfl

/-- The divisor of one class. -/
theorem safeOf_at (hy : ∀ n, y (ix1 n) = l n) (c : ℕ) (o : S_.Idx) :
    safeOf (F := Ideal) y c o = ((safe (mask l) c : ℝ) : EReal) := by
  pointwise [safeOf, countOf_at y l hy]
  rw [← EReal.coe_one, max_real]
  rfl

/-- The mean of one class, at column `d`. -/
theorem meanOf_at (hx : ∀ n d, x (ix2 n d) = ((e n d : ℝ) : EReal)) (hy : ∀ n, y (ix1 n) = l n) (c : ℕ) (d : Fin 512) :
    meanOf (F := Ideal) x y c (ix1 d) = ((mean e (mask l) c d : ℝ) : EReal) := by
  pointwise [meanOf, nil, maskRows_at y l hy, safeOf_at y l hy, hx]
  simp only [← EReal.coe_mul, coe_sum, div_real _ _ (safe_ne _ _)]
  simp only [mean, tot, mul_comm]

/-- The masked difference of row `n` from the mean, at column `d`. -/
theorem diffOf_at (hx : ∀ n d, x (ix2 n d) = ((e n d : ℝ) : EReal)) (hy : ∀ n, y (ix1 n) = l n) (c : ℕ) (n : Fin 4096) (d : Fin 512) :
    diffOf (F := Ideal) x y c (ix2 n d) = (((e n d - mean e (mask l) c d) * mask l n c : ℝ) : EReal) := by
  pointwise [diffOf, maskRows_at y l hy, meanOf_at x y e l hx hy, hx]
  rw [← EReal.coe_sub, ← EReal.coe_mul]

/-- What one class adds to the first part of the loss. -/
theorem lossOf_at (hx : ∀ n d, x (ix2 n d) = ((e n d : ℝ) : EReal)) (hy : ∀ n, y (ix1 n) = l n) (c : ℕ) (o : S_.Idx) :
    lossOf (F := Ideal) x y c o = ((lossRef e (mask l) c : ℝ) : EReal) := by
  have h0 : id (nil (F := Ideal)) o = 0 := nil_at o
  pointwise [lossOf, h0, nil_at, countOf_at y l hy, safeOf_at y l hy, diffOf_at x y e l hx hy]
  simp only [← EReal.coe_mul, coe_sum, ← EReal.coe_add, zero_add, word_512, loss_real _ _ _ (safe_ne _ _)]
  rfl

/-- What one pair of classes adds to the second part. -/
theorem pairOf_at (hx : ∀ n d, x (ix2 n d) = ((e n d : ℝ) : EReal)) (hy : ∀ n, y (ix1 n) = l n) (i j : ℕ) (o : S_.Idx) :
    pairOf (F := Ideal) x y i j o = ((apart e (mask l) i j : ℝ) : EReal) := by
  pointwise [pairOf, gapOf, nil, meanOf_at x y e l hx hy]
  simp only [← EReal.coe_sub, ← EReal.coe_mul, coe_sum, word_512]
  rw [div_real _ _ (by norm_num)]
  rfl

/-- A number built up along a list, each entry adding a real, ends as the reals' sum. -/
theorem foldl_real (f : FVec Ideal S_ .f32 → ℕ → FVec Ideal S_ .f32) (t : ℕ → ℝ)
    (hf : ∀ a r c, (∀ o, a o = ((r : ℝ) : EReal)) → ∀ o, f a c o = ((r + t c : ℝ) : EReal)) :
    ∀ (L : List ℕ) (a : FVec Ideal S_ .f32) (r : ℝ), (∀ o, a o = ((r : ℝ) : EReal)) →
      ∀ o, L.foldl f a o = ((r + (L.map t).sum : ℝ) : EReal)
  | [], a, r, h, o => by rw [List.foldl_nil, h o, List.map_nil, List.sum_nil, add_zero]
  | c :: L, a, r, h, o => by
    rw [List.foldl_cons, foldl_real f t hf L (f a c) (r + t c) (hf a r c h) o, List.map_cons, List.sum_cons, add_assoc]

/-- Adding one more real term to a real running sum gives a real running sum. -/
theorem add_step (g : ℕ → FVec Ideal S_ .f32) (t : ℕ → ℝ) (hg : ∀ c o, g c o = ((t c : ℝ) : EReal))
    (a : FVec Ideal S_ .f32) (r : ℝ) (c : ℕ) (h : ∀ o, a o = ((r : ℝ) : EReal)) (o : S_.Idx) :
    addf (F := Ideal) a (g c) o = ((r + t c : ℝ) : EReal) := by
  show a o + g c o = _
  rw [h, hg, ← EReal.coe_add]

/-- The classes' part of the loss. -/
theorem intraOf_at (hx : ∀ n d, x (ix2 n d) = ((e n d : ℝ) : EReal)) (hy : ∀ n, y (ix1 n) = l n) (o : S_.Idx) :
    intraOf (F := Ideal) x y o = ((∑ c : Fin 16, lossRef e (mask l) c : ℝ) : EReal) := by
  unfold intraOf
  rw [foldl_real _ _ (add_step _ _ (lossOf_at x y e l hx hy)) _ nil 0 nil_at o, zero_add]
  simp only [List.range', List.map, List.sum_cons, List.sum_nil, Fin.sum_univ_succ, Fin.sum_univ_zero]
  rfl

/-- The pairs' part of the loss. -/
theorem interOf_at (hx : ∀ n d, x (ix2 n d) = ((e n d : ℝ) : EReal)) (hy : ∀ n, y (ix1 n) = l n) (o : S_.Idx) :
    interOf (F := Ideal) x y o = ((interRef e (mask l) : ℝ) : EReal) := by
  unfold interOf interRef
  rw [foldl_real _ (fun i => ((List.range' (i + 1) (15 - i)).map fun j => apart e (mask l) i j).sum)
    (fun a r i h => foldl_real _ _ (add_step _ _ (pairOf_at x y e l hx hy i)) _ a r h) _ nil 0 nil_at o, zero_add]

/-- The loss the reference computes, of the rows `e` with the labels `l`. -/
theorem lossAll_at (hx : ∀ n d, x (ix2 n d) = ((e n d : ℝ) : EReal)) (hy : ∀ n, y (ix1 n) = l n) (o : S_.Idx) :
    lossAll (F := Ideal) x y o
      = ((1 / 2 * (∑ c : Fin 16, lossRef e (mask l) c) + 1 / 2 * interRef e (mask l) : ℝ) : EReal) := by
  pointwise [lossAll, intraOf_at x y e l hx hy, interOf_at x y e l hx hy]
  rw [word_half, ← EReal.coe_mul, ← EReal.coe_mul, ← EReal.coe_add]

end Cert.ReferenceIdeal.Island
-- ==== Proof.Island.Pre.lean ====
/-
  What the precondition says: every entry of the rows is a real number.
-/
module

public import proofs.«01_k».proof.Proof.Gen.Pre_finite
public import Idealize.ShloMosaic.Lib.ReduceAll
public import Idealize.ShloMosaic.Lib.Pointwise

@[expose] public section

noncomputable section

namespace Cert.Island

open Idealize.ShloMosaic Cert.Pre_finite Cert.Pre_finite.Gen

/-- The word of infinity. -/
theorem word_top : Ideal.ofBits .f32 0x7F800000#32 = ⊤ := by
  simp [Ideal.ofBits, Ideal.ieee]

/-- A number whose magnitude is below infinity is a real. -/
theorem real_of_abs (a : EReal) (h : max a (-a) < ⊤) : ∃ r : ℝ, a = (r : EReal) := by
  induction a with
  | bot => simp at h
  | top => simp at h
  | coe r => exact ⟨r, rfl⟩

instance : Subsingleton S_.Idx := ⟨fun a b => funext fun i => i.elim0⟩

/-- Rows of which the precondition holds are rows of reals. -/
theorem finite_rows (x : FVec Ideal S4096x512 .f32) (y : IVec S4096 32)
    (h : fn (F := Ideal) x y = fun _ => 1#1) : ∃ e : Fin 4096 → Fin 512 → ℝ, ∀ n d, x (ix2 n d) = ((e n d : ℝ) : EReal) := by
  have key : ∀ n d, ∃ r : ℝ, x (ix2 n d) = (r : EReal) := by
    intro n d
    have h1 := Host.reduce_andi_all _ _ _ _ (fun i => i.elim0) (congrFun h fun i => i.elim0) (ix2 n d)
    pointwise at h1
    rw [word_top] at h1
    refine real_of_abs _ ?_
    by_contra hn
    have h0 : decide (FloatOps.absf (x (ix2 n d)) < (⊤ : EReal)) = false := decide_eq_false hn
    rw [h0] at h1
    exact absurd h1 (by decide)
  choose e he using key
  exact ⟨e, he⟩

end Cert.Island
-- ==== Proof.Island.Same.lean ====
/-
  On finite rows the two programs compute the same number.
-/
module

public import proofs.«01_k».proof.Proof.Island.KernelMath
public import proofs.«01_k».proof.Proof.Island.KernelRun
public import proofs.«01_k».proof.Proof.Island.Ref
public import proofs.«01_k».proof.Proof.Island.Pre

@[expose] public section

noncomputable section

namespace Cert.Island

open Idealize.ShloMosaic

/-- The labels stood up as a column are the labels. -/
theorem column_at (y : IVec Cert.KernelIdeal.S4096 32) (n : Fin 4096) :
    shapeCast Cert.KernelIdeal.S4096x1 y Cert.KernelIdeal.Gen.shapeCasts_S4096_S4096x1 (ix2 n 0) = y (ix1 n) := by
  pointwise

/-- Of the same finite rows and the same labels, the number the kernel stores is the loss the reference computes. -/
theorem same (x : FVec Ideal Cert.KernelIdeal.S4096x512 .f32) (y : IVec Cert.KernelIdeal.S4096 32)
    (h : Cert.Pre_finite.fn (F := Ideal) x y = fun _ => 1#1) :
    (fun _ => Cert.KernelIdeal.Island.loss x
        (shapeCast Cert.KernelIdeal.S4096x1 y Cert.KernelIdeal.Gen.shapeCasts_S4096_S4096x1))
      = Cert.ReferenceIdeal.Island.lossAll (F := Ideal) x y := by
  obtain ⟨e, he⟩ := finite_rows x y h
  funext o
  rw [Cert.ReferenceIdeal.Island.lossAll_at x y e (fun n => y (ix1 n)) he (fun _ => rfl) o]
  refine (Cert.KernelIdeal.Island.stored x _ e (fun n => y (ix1 n)) he (column_at y)).trans ?_
  simp only [lossKer_eq e _ (mask_01 _), interKer_eq]

end Cert.Island
-- ==== Proof.Island.RefRun.lean ====
/-
  A run of the reference ends with the loss of Ref.lean in its result.
-/
module

public import proofs.«01_k».proof.Proof.Island.Ref
public import proofs.«01_k».proof.Proof.Gen.ReferenceIdeal.Run
public import Idealize.ShloMosaic.Lib.Quiescent

@[expose] public section

set_option maxRecDepth 65536

noncomputable section

namespace Cert.ReferenceIdeal.Island

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The loss in the result, the arguments as they were. -/
theorem run_loss (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v986)
          = lossAll (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

/-- A run of the reference ends with its arguments as they were and nothing counted: it has no semaphores. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (run m ρ)

end Cert.ReferenceIdeal.Island
-- ==== Proof.lean ====
/-
  The certificate: the three programs run and leave their arguments and every counter as they were, and on finite
  rows the kernel's loss is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Island.Same
public import proofs.«01_k».proof.Proof.Island.RefRun
public import Idealize.ShloMosaic.Adequacy
public import Idealize.ShloMosaic.Init

@[expose] public section

noncomputable section

namespace Cert.Proof

open Idealize.ShloMosaic Idealize.SL.Sem Cert.Kernel

/-- From memories that agree on finite arguments, the kernel and the reference end with equal results. -/
theorem algebraic : Cert.algebraic_KernelIdeal_ReferenceIdeal_pre_finite := by
  intro m g m' g' hpre hargs
  refine ⟨fun c _ => Cert.KernelIdeal.Island.number m c, Cert.KernelIdeal.Island.run m g, ?_⟩
  refine (θ_run Cert.ReferenceIdeal.defs _ _).mono (fun r h c => ⟨(h c).1.trans ?_, (h c).2⟩)
    (Cert.ReferenceIdeal.Island.run_loss m' g')
  rw [(hargs c).1, (hargs c).2]
  exact (Cert.Island.same _ _ (hpre c)).symm

/-- Everything the certificate claims. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    fun m g _ => Cert.ReferenceIdeal.Island.frame m g,
    fun m g _ => Cert.ReferenceIdeal.Island.frame m g,
    trivial,
    algebraic⟩

end Cert.Proof

end
